-- ==== Defs.lean ====
def Pre_Kernel [hPre_pos_ok : Cert.Pre_pos_ok.Facts] (m : (ℓ : Loc Cert.Kernel.nD Cert.Kernel.τ Cert.Kernel.sig) → Buf (Elt Bits) ℓ) : Prop :=
  ∀ c : Dev Cert.Kernel.nD,
    (Cert.Pre_pos_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_pos_ok : Cert.Pre_pos_ok.Facts] (m : (ℓ : Loc Cert.KernelIdeal.nD Cert.KernelIdeal.τ Cert.KernelIdeal.sig) → Buf (Elt Ideal) ℓ) : Prop :=
  ∀ c : Dev Cert.KernelIdeal.nD,
    (Cert.Pre_pos_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_caches_zero [hPre_caches_zero : Cert.Pre_caches_zero.Facts] (m : (ℓ : Loc Cert.KernelIdeal.nD Cert.KernelIdeal.τ Cert.KernelIdeal.sig) → Buf (Elt Ideal) ℓ) : Prop :=
  ∀ c : Dev Cert.KernelIdeal.nD,
    (Cert.Pre_caches_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_caches_zero [hPre_caches_zero : Cert.Pre_caches_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_caches_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_pos_ok : Cert.Pre_pos_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_pos_ok : Cert.Pre_pos_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_caches_zero [hKernelIdeal : Cert.KernelIdeal.Facts] [hPre_caches_zero : Cert.Pre_caches_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_caches_zero m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_caches_zero [hReferenceIdeal : Cert.ReferenceIdeal.Facts] [hPre_caches_zero : Cert.Pre_caches_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_caches_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_caches_zero [hKernelIdeal : Cert.KernelIdeal.Facts] [hReferenceIdeal : Cert.ReferenceIdeal.Facts] [hPre_caches_zero : Cert.Pre_caches_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_caches_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pos_ok : Cert.Pre_pos_ok.Facts) (hPre_caches_zero : Cert.Pre_caches_zero.Facts),
    quiescent_Kernel (hKernel := hKernel) (hPre_pos_ok := hPre_pos_ok)
    ∧ quiescent_KernelIdeal (hKernelIdeal := hKernelIdeal) (hPre_pos_ok := hPre_pos_ok)
    ∧ quiescent_KernelIdeal_pre_caches_zero (hKernelIdeal := hKernelIdeal) (hPre_caches_zero := hPre_caches_zero)
    ∧ quiescent_ReferenceIdeal (hReferenceIdeal := hReferenceIdeal)
    ∧ quiescent_ReferenceIdeal_pre_caches_zero (hReferenceIdeal := hReferenceIdeal) (hPre_caches_zero := hPre_caches_zero)
    ∧ preserves_Kernel_KernelIdeal
    ∧ algebraic_KernelIdeal_ReferenceIdeal_pre_caches_zero (hKernelIdeal := hKernelIdeal) (hReferenceIdeal := hReferenceIdeal) (hPre_caches_zero := hPre_caches_zero)
-- ==== Pre_caches_zero.lean ====
abbrev S32 : Shape := ⟨1, ![32]⟩
abbrev S8x16x32x128 : Shape := ⟨4, ![8, 16, 32, 128]⟩
abbrev S8x16x2048x128 : Shape := ⟨4, ![8, 16, 2048, 128]⟩
abbrev S_ : Shape := ⟨0, ![]⟩
abbrev S32x1 : Shape := ⟨2, ![32, 1]⟩
abbrev S1x32 : Shape := ⟨2, ![1, 32]⟩
abbrev S32x32 : Shape := ⟨2, ![32, 32]⟩

class Facts : Prop where
  bcast_S_S32 : S_.BroadcastsInDim S32 (![] : Fin 0 → Fin S32.rank)
  reducesTo_S32_S_d0 : S32.ReducesTo [0] S_
  h_S_ : 0 < S_.numel
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  reducesTo_S32x32_S_d0_1 : S32x32.ReducesTo [0, 1] S_
  bcast_S_S8x16x2048x128 : S_.BroadcastsInDim S8x16x2048x128 (![] : Fin 0 → Fin S8x16x2048x128.rank)
  reducesTo_S8x16x2048x128_S_d0_1_2_3 : S8x16x2048x128.ReducesTo [0, 1, 2, 3] S_

variable [Facts]

def fn_part1 {F : FTy → Type} [FloatOps F] (main_arg3 : FVec F S8x16x2048x128 .f32) (main_arg4 : FVec F S8x16x2048x128 .f32) (main_v5 : IVec S_ 1) (main_v19 : IVec S_ 1) : IVec S_ 1 :=
  let main_v20 : IVec S_ 1 := andi main_v5 main_v19
  let main_cst : FVec F S_ .f32 := constant S_ .f32 0x00000000#32
  let main_v21 : FVec F S8x16x2048x128 .f32 := broadcastInDim S8x16x2048x128 ![] bcast_S_S8x16x2048x128 main_cst
  let main_v22 : IVec S8x16x2048x128 1 := cmpf .oeq main_arg3 main_v21
  let main_c_3 : IVec S_ 1 := constantI S_ 1 1#1
  let main_v23 : IVec S_ 1 := (fun x v => Host.reduce IntOp.andi x v reducesTo_S8x16x2048x128_S_d0_1_2_3 h_S_) main_v22 main_c_3
  let main_v24 : IVec S_ 1 := andi main_v20 main_v23
  let main_cst_4 : FVec F S_ .f32 := constant S_ .f32 0x00000000#32
  let main_v25 : FVec F S8x16x2048x128 .f32 := broadcastInDim S8x16x2048x128 ![] bcast_S_S8x16x2048x128 main_cst_4
  let main_v26 : IVec S8x16x2048x128 1 := cmpf .oeq main_arg4 main_v25
  let main_c_5 : IVec S_ 1 := constantI S_ 1 1#1
  let main_v27 : IVec S_ 1 := (fun x v => Host.reduce IntOp.andi x v reducesTo_S8x16x2048x128_S_d0_1_2_3 h_S_) main_v26 main_c_5
  let main_v28 : IVec S_ 1 := andi main_v24 main_v27
  main_v28

def fn {F : FTy → Type} [FloatOps F] (main_arg0 : IVec S32 32) (main_arg1 : FVec F S8x16x32x128 .f32) (main_arg2 : FVec F S8x16x32x128 .f32) (main_arg3 : FVec F S8x16x2048x128 .f32) (main_arg4 : FVec F S8x16x2048x128 .f32) : IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 2048#32
  let main_v2 : IVec S32 32 := broadcastInDim S32 ![] bcast_S_S32 main_c_0
  let main_v3 : IVec S32 1 := cmpi .slt main_arg0 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_v6 : IVec S32x1 32 := broadcastInDim S32x1 ![0] bcast_S32_S32x1_0 main_arg0
  let main_v7 : IVec S1x32 32 := broadcastInDim S1x32 ![1] bcast_S32_S1x32_1 main_arg0
  let main_v8 : IVec S32x32 32 := broadcastInDim S32x32 ![0, 1] bcast_S32x1_S32x32_0_1 main_v6
  let main_v9 : IVec S32x32 32 := broadcastInDim S32x32 ![0, 1] bcast_S1x32_S32x32_0_1 main_v7
  let main_v10 : IVec S32x32 1 := cmpi .ne main_v8 main_v9
  let main_v11 : IVec S32 32 := iotaInDim S32 32 0
  let main_v12 : IVec S32x1 32 := broadcastInDim S32x1 ![0] bcast_S32_S32x1_0 main_v11
  let main_v13 : IVec S32 32 := iotaInDim S32 32 0
  let main_v14 : IVec S1x32 32 := broadcastInDim S1x32 ![1] bcast_S32_S1x32_1 main_v13
  let main_v15 : IVec S32x32 32 := broadcastInDim S32x32 ![0, 1] bcast_S32x1_S32x32_0_1 main_v12
  let main_v16 : IVec S32x32 32 := broadcastInDim S32x32 ![0, 1] bcast_S1x32_S32x32_0_1 main_v14
  let main_v17 : IVec S32x32 1 := cmpi .eq main_v15 main_v16
  let main_v18 : IVec S32x32 1 := ori main_v10 main_v17
  let main_c_2 : IVec S_ 1 := constantI S_ 1 1#1
  let main_v19 : IVec S_ 1 := (fun x v => Host.reduce IntOp.andi x v reducesTo_S32x32_S_d0_1 h_S_) main_v18 main_c_2
  fn_part1 (F := F) main_arg3 main_arg4 main_v5 main_v19
-- ==== Pre_pos_ok.lean ====
abbrev S32 : Shape := ⟨1, ![32]⟩
abbrev S8x16x32x128 : Shape := ⟨4, ![8, 16, 32, 128]⟩
abbrev S8x16x2048x128 : Shape := ⟨4, ![8, 16, 2048, 128]⟩
abbrev S_ : Shape := ⟨0, ![]⟩
abbrev S32x1 : Shape := ⟨2, ![32, 1]⟩
abbrev S1x32 : Shape := ⟨2, ![1, 32]⟩
abbrev S32x32 : Shape := ⟨2, ![32, 32]⟩

class Facts : Prop where
  bcast_S_S32 : S_.BroadcastsInDim S32 (![] : Fin 0 → Fin S32.rank)
  reducesTo_S32_S_d0 : S32.ReducesTo [0] S_
  h_S_ : 0 < S_.numel
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  reducesTo_S32x32_S_d0_1 : S32x32.ReducesTo [0, 1] S_

variable [Facts]

def fn_part1 {F : FTy → Type} [FloatOps F] (main_v5 : IVec S_ 1) (main_v19 : IVec S_ 1) : IVec S_ 1 :=
  let main_v20 : IVec S_ 1 := andi main_v5 main_v19
  main_v20

def fn {F : FTy → Type} [FloatOps F] (main_arg0 : IVec S32 32) (main_arg1 : FVec F S8x16x32x128 .f32) (main_arg2 : FVec F S8x16x32x128 .f32) (main_arg3 : FVec F S8x16x2048x128 .f32) (main_arg4 : FVec F S8x16x2048x128 .f32) : IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 2048#32
  let main_v2 : IVec S32 32 := broadcastInDim S32 ![] bcast_S_S32 main_c_0
  let main_v3 : IVec S32 1 := cmpi .slt main_arg0 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_v6 : IVec S32x1 32 := broadcastInDim S32x1 ![0] bcast_S32_S32x1_0 main_arg0
  let main_v7 : IVec S1x32 32 := broadcastInDim S1x32 ![1] bcast_S32_S1x32_1 main_arg0
  let main_v8 : IVec S32x32 32 := broadcastInDim S32x32 ![0, 1] bcast_S32x1_S32x32_0_1 main_v6
  let main_v9 : IVec S32x32 32 := broadcastInDim S32x32 ![0, 1] bcast_S1x32_S32x32_0_1 main_v7
  let main_v10 : IVec S32x32 1 := cmpi .ne main_v8 main_v9
  let main_v11 : IVec S32 32 := iotaInDim S32 32 0
  let main_v12 : IVec S32x1 32 := broadcastInDim S32x1 ![0] bcast_S32_S32x1_0 main_v11
  let main_v13 : IVec S32 32 := iotaInDim S32 32 0
  let main_v14 : IVec S1x32 32 := broadcastInDim S1x32 ![1] bcast_S32_S1x32_1 main_v13
  let main_v15 : IVec S32x32 32 := broadcastInDim S32x32 ![0, 1] bcast_S32x1_S32x32_0_1 main_v12
  let main_v16 : IVec S32x32 32 := broadcastInDim S32x32 ![0, 1] bcast_S1x32_S32x32_0_1 main_v14
  let main_v17 : IVec S32x32 1 := cmpi .eq main_v15 main_v16
  let main_v18 : IVec S32x32 1 := ori main_v10 main_v17
  let main_c_2 : IVec S_ 1 := constantI S_ 1 1#1
  let main_v19 : IVec S_ 1 := (fun x v => Host.reduce IntOp.andi x v reducesTo_S32x32_S_d0_1 h_S_) main_v18 main_c_2
  fn_part1 (F := F) main_v5 main_v19
-- ==== Kernel.lean ====
abbrev S32 : Shape := ⟨1, ![32]⟩
abbrev S8x16x32x128 : Shape := ⟨4, ![8, 16, 32, 128]⟩
abbrev S8x16x2048x128 : Shape := ⟨4, ![8, 16, 2048, 128]⟩
abbrev S4096x128 : Shape := ⟨2, ![4096, 128]⟩
abbrev S262144x128 : Shape := ⟨2, ![262144, 128]⟩
abbrev S128 : Shape := ⟨1, ![128]⟩
abbrev S128x128 : Shape := ⟨2, ![128, 128]⟩
abbrev S8192x128 : Shape := ⟨2, ![8192, 128]⟩
abbrev S_ : Shape := ⟨0, ![]⟩
abbrev S512x128 : Shape := ⟨2, ![512, 128]⟩
abbrev S16 : Shape := ⟨1, ![16]⟩
abbrev S1x8x32x128 : Shape := ⟨4, ![1, 8, 32, 128]⟩
abbrev S1x8x2048x128 : Shape := ⟨4, ![1, 8, 2048, 128]⟩
abbrev S1 : Shape := ⟨1, ![1]⟩
abbrev S1x1x1x128 : Shape := ⟨4, ![1, 1, 1, 128]⟩
abbrev S1x128 : Shape := ⟨2, ![1, 128]⟩

abbrev nBuf : Table → Nat
  | .hbm => 10
  | .local .tc .vmem => 4
  | .local .tc .smem => 1
  | .shared => 1
  | .local .scVector .vmem => 3
  | _ => 0

abbrev bufTy : (tb : Table) → Fin (nBuf tb) → BufTy
  | .hbm, ⟨0, _⟩ => ⟨S32, .i32⟩
  | .hbm, ⟨1, _⟩ => ⟨S8x16x32x128, .f32⟩
  | .hbm, ⟨2, _⟩ => ⟨S8x16x32x128, .f32⟩
  | .hbm, ⟨3, _⟩ => ⟨S8x16x2048x128, .f32⟩
  | .hbm, ⟨4, _⟩ => ⟨S8x16x2048x128, .f32⟩
  | .hbm, ⟨5, _⟩ => ⟨S4096x128, .f32⟩
  | .hbm, ⟨6, _⟩ => ⟨S262144x128, .f32⟩
  | .hbm, ⟨7, _⟩ => ⟨S262144x128, .f32⟩
  | .hbm, ⟨8, _⟩ => ⟨S8x16x2048x128, .f32⟩
  | .hbm, ⟨9, _⟩ => ⟨S8x16x2048x128, .f32⟩
  | .local .tc .vmem, ⟨0, _⟩ => ⟨S1x8x32x128, .f32⟩
  | .local .tc .vmem, ⟨1, _⟩ => ⟨S1x8x32x128, .f32⟩
  | .local .tc .vmem, ⟨2, _⟩ => ⟨S1x8x2048x128, .f32⟩
  | .local .tc .vmem, ⟨3, _⟩ => ⟨S1x8x2048x128, .f32⟩
  | .local .tc .smem, ⟨0, _⟩ => ⟨S32, .i32⟩
  | .shared, ⟨0, _⟩ => ⟨S8192x128, .f32⟩
  | .local .scVector .vmem, ⟨0, _⟩ => ⟨S32, .i32⟩
  | .local .scVector .vmem, ⟨1, _⟩ => ⟨S128, .i32⟩
  | .local .scVector .vmem, ⟨2, _⟩ => ⟨S128x128, .f32⟩
  | _, _ => ⟨S32, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0_scv : Ref sig .scVector := ⟨.hbm, 0, rfl⟩
abbrev main_v0_scv : Ref sig .scVector := ⟨.hbm, 5, rfl⟩
abbrev main_v1_scv : Ref sig .scVector := ⟨.hbm, 6, rfl⟩
abbrev main_v2_scv : Ref sig .scVector := ⟨.hbm, 7, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg0_0 : Ref sig .tc := ⟨.smem, 0, rfl⟩
abbrev cc0_scratch3 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c512_i32 : BitVec 32 := 512#32
  let v3 : BitVec 32 := Scalar.muli arg1 c512_i32
  let c0_i32_114_r0 : BitVec 32 := 0#32
  ![v3.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v5 : BitVec 32 := Scalar.addi v2 c0_i32
  let c0_i32_1 : BitVec 32 := 0#32
  ![v5.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v68 : BitVec 32 := Scalar.muli v1 c128_i32
  let c0_i32_114_r2 : BitVec 32 := 0#32
  ![v68.toNat, 0]
abbrev grid1 : Pipeline.Grid := ⟨2, ![8, 2], ![false, false]⟩

@[reducible] def k1_t1_loop : Scf.Loop 32 :=
  let c0_i32 : BitVec 32 := 0#32
  let c256_i32 : BitVec 32 := 256#32
  let v2 : BitVec 32 := Scalar.addi c0_i32 c256_i32
  let c1_i32 : BitVec 32 := 1#32
  ⟨c0_i32, v2, c1_i32⟩
def k1_off1 (k1_t1 : Fin k1_t1_loop.trips) : Fin 1 → Nat :=
  let c0_i32 : BitVec 32 := 0#32
  let c1_i32 : BitVec 32 := 1#32
  let arg5 : BitVec 32 := Scf.iv c0_i32 c1_i32 k1_t1
  let c32_i32_10 : BitVec 32 := 32#32
  let c0_i32_11 : BitVec 32 := 0#32
  let v20 : BitVec 1 := Scalar.cmpi .eq c32_i32_10 c0_i32_11
  let c1_i32_12 : BitVec 32 := 1#32
  let v21 : BitVec 32 := Scalar.select v20 c1_i32_12 c32_i32_10
  let v22 : BitVec 32 := Scalar.remsi arg5 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v30 : Index := Scalar.indexCast v29
  ![v30.toNat]
def k1_off2 (k1_t1 : Fin k1_t1_loop.trips) : Fin 4 → Nat :=
  let c0_16 : Index := 0#32
  let c0_i32 : BitVec 32 := 0#32
  let c1_i32 : BitVec 32 := 1#32
  let arg5 : BitVec 32 := Scf.iv c0_i32 c1_i32 k1_t1
  let c0_i32_4 : BitVec 32 := 0#32
  let v4 : BitVec 1 := Scalar.cmpi .sgt arg5 c0_i32_4
  let v5 : BitVec 32 := Scalar.extui v4
  let c0_i32_5 : BitVec 32 := 0#32
  let v6 : BitVec 1 := Scalar.cmpi .slt arg5 c0_i32_5
  let v7 : BitVec 32 := Scalar.extui v6
  let v8 : BitVec 32 := Scalar.subi v5 v7
  let c32_i32 : BitVec 32 := 32#32
  let c0_i32_6 : BitVec 32 := 0#32
  let v9 : BitVec 1 := Scalar.cmpi .sgt c32_i32 c0_i32_6
  let v10 : BitVec 32 := Scalar.extui v9
  let c0_i32_7 : BitVec 32 := 0#32
  let v11 : BitVec 1 := Scalar.cmpi .slt c32_i32 c0_i32_7
  let v12 : BitVec 32 := Scalar.extui v11
  let v13 : BitVec 32 := Scalar.subi v10 v12
  let v14 : BitVec 1 := Scalar.cmpi .ne v8 v13
  let v15 : BitVec 32 := Scalar.remsi arg5 c32_i32
  let c0_i32_8 : BitVec 32 := 0#32
  let v16 : BitVec 1 := Scalar.cmpi .ne v15 c0_i32_8
  let v17 : BitVec 1 := Scalar.andi v14 v16
  let v3 : BitVec 32 := Scalar.divsi arg5 c32_i32
  let c1_i32_9 : BitVec 32 := 1#32
  let v18 : BitVec 32 := Scalar.subi v3 c1_i32_9
  let v19 : BitVec 32 := Scalar.select v17 v18 v3
  let v32 : Index := Scalar.indexCast v19
  let c32_i32_10 : BitVec 32 := 32#32
  let c0_i32_11 : BitVec 32 := 0#32
  let v20 : BitVec 1 := Scalar.cmpi .eq c32_i32_10 c0_i32_11
  let c1_i32_12 : BitVec 32 := 1#32
  let v21 : BitVec 32 := Scalar.select v20 c1_i32_12 c32_i32_10
  let v22 : BitVec 32 := Scalar.remsi arg5 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v33 : Index := Scalar.indexCast v29
  let c0_17 : Index := 0#32
  ![0, v32.toNat, v33.toNat, 0]
def k1_off3 (k1_t1 : Fin k1_t1_loop.trips) (v31 : BitVec 32) : Fin 4 → Nat :=
  let c0_18 : Index := 0#32
  let c0_i32 : BitVec 32 := 0#32
  let c1_i32 : BitVec 32 := 1#32
  let arg5 : BitVec 32 := Scf.iv c0_i32 c1_i32 k1_t1
  let c0_i32_4 : BitVec 32 := 0#32
  let v4 : BitVec 1 := Scalar.cmpi .sgt arg5 c0_i32_4
  let v5 : BitVec 32 := Scalar.extui v4
  let c0_i32_5 : BitVec 32 := 0#32
  let v6 : BitVec 1 := Scalar.cmpi .slt arg5 c0_i32_5
  let v7 : BitVec 32 := Scalar.extui v6
  let v8 : BitVec 32 := Scalar.subi v5 v7
  let c32_i32 : BitVec 32 := 32#32
  let c0_i32_6 : BitVec 32 := 0#32
  let v9 : BitVec 1 := Scalar.cmpi .sgt c32_i32 c0_i32_6
  let v10 : BitVec 32 := Scalar.extui v9
  let c0_i32_7 : BitVec 32 := 0#32
  let v11 : BitVec 1 := Scalar.cmpi .slt c32_i32 c0_i32_7
  let v12 : BitVec 32 := Scalar.extui v11
  let v13 : BitVec 32 := Scalar.subi v10 v12
  let v14 : BitVec 1 := Scalar.cmpi .ne v8 v13
  let v15 : BitVec 32 := Scalar.remsi arg5 c32_i32
  let c0_i32_8 : BitVec 32 := 0#32
  let v16 : BitVec 1 := Scalar.cmpi .ne v15 c0_i32_8
  let v17 : BitVec 1 := Scalar.andi v14 v16
  let v3 : BitVec 32 := Scalar.divsi arg5 c32_i32
  let c1_i32_9 : BitVec 32 := 1#32
  let v18 : BitVec 32 := Scalar.subi v3 c1_i32_9
  let v19 : BitVec 32 := Scalar.select v17 v18 v3
  let v36 : Index := Scalar.indexCast v19
  let v37 : Index := Scalar.indexCast v31
  let c0_19 : Index := 0#32
  ![0, v36.toNat, v37.toNat, 0]

def k1_chk1 (k1_t1 : Fin k1_t1_loop.trips) (v31 : BitVec 32) : Prop :=
  (∀ a, (k1_off3 k1_t1 v31) a + S1x1x1x128.size a ≤ S1x8x2048x128.size a)
theorem k1_off3_inb : ∀ (k1_t1 : Fin k1_t1_loop.trips) (v31 : BitVec 32) (k1_hw1 : k1_chk1 k1_t1 v31), ∀ a, (k1_off3 k1_t1 v31) a + S1x1x1x128.size a ≤ S1x8x2048x128.size a := fun k1_t1 v31 k1_hw1 => k1_hw1

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 1 → Memref sig .tc .smem S32 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x8x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32 : Shape := ⟨1, ![32]⟩
abbrev S8x16x32x128 : Shape := ⟨4, ![8, 16, 32, 128]⟩
abbrev S8x16x2048x128 : Shape := ⟨4, ![8, 16, 2048, 128]⟩
abbrev S_ : Shape := ⟨0, ![]⟩
abbrev S32x1 : Shape := ⟨2, ![32, 1]⟩

abbrev nBuf : Space → Nat
  | .hbm => 23
  | .vmem => 0
  | .smem => 0
  | _ => 0

abbrev bufTy : (tb : Table) → Fin (tcTables nBuf tb) → BufTy
  | .hbm, ⟨0, _⟩ => ⟨S32, .i32⟩
  | .hbm, ⟨1, _⟩ => ⟨S8x16x32x128, .f32⟩
  | .hbm, ⟨2, _⟩ => ⟨S8x16x32x128, .f32⟩
  | .hbm, ⟨3, _⟩ => ⟨S8x16x2048x128, .f32⟩
  | .hbm, ⟨4, _⟩ => ⟨S8x16x2048x128, .f32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S8x16x2048x128, .f32⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S32, .i32⟩
  | .hbm, ⟨21, _⟩ => ⟨S32x1, .i32⟩
  | .hbm, ⟨22, _⟩ => ⟨S8x16x2048x128, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Proof.Setup.lean ====
/-
  The program's parts under short names, and the geometry of the SparseCore call: which rows of the arrays a tile
  works on. Tile `(c, s)` (SparseCore `c`, vector subcore `s`) has number `w = 2 s + c`; its rows of the output are
  `8192 w … 8192 w + 8191` (four of the 128 slices of 2048 rows), its rows of the new values `128 w … 128 w + 127`, and
  its rows of its SparseCore's shared memory `512 s … 512 s + 511`.
-/
module

public import proofs.«01_k».proof.Defs
public import Idealize.ShloMosaic.Lib.SparseCore.Quiescent
public import Idealize.ShloMosaic.Lib.SparseCore.Ops
public import Idealize.ShloMosaic.Lib.SparseCore.Scatter
public import Idealize.ShloMosaic.Lib.Batch
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The SparseCore call's arrays -/

/-- The indices, the new values by row, the cache by row (whose first 512 rows the fill copies), the output by row. -/
abbrev pLoc (d : Dev nD) : Loc nD τ sig := (SparseCore.T d).loc main_arg0
abbrev aLoc (d : Dev nD) : Loc nD τ sig := (SparseCore.T d).loc main_v0
abbrev zLoc (d : Dev nD) : Loc nD τ sig := (SparseCore.T d).loc main_v1
abbrev oLoc (d : Dev nD) : Loc nD τ sig := (SparseCore.T d).loc main_v2
/-- SparseCore `c`'s shared memory. -/
abbrev shRef (c : Fin τ.nSC) : DevRef τ sig := ⟨.shared, ⟨0, by decide⟩, c⟩
abbrev shLoc (d : Dev nD) (c : Fin τ.nSC) : Loc nD τ sig := (d, shRef c)

/-! ## A tile's views -/

abbrev cV (L : grid0.Coords) : Fin τ.nSC := (L 0).castLE hcore0
abbrev jV (L : grid0.Coords) : Fin τ.nSub := (L 1).castLE hsub0

/-- The tile's number, `2 s + c`. -/
def wid (L : grid0.Coords) : Fin 32 := ⟨2 * (L 1).val + (L 0).val, by have h0 : (L 0).val < 2 := (L 0).isLt; have h1 : (L 1).val < 16 := (L 1).isLt; omega⟩

abbrev pV : Memref sig .scVector .hbm S32 .i32 := Memref.whole main_arg0_scv
abbrev aV : Memref sig .scVector .hbm S4096x128 .f32 := Memref.whole main_v0_scv
abbrev zV : Memref sig .scVector .hbm S262144x128 .f32 := Memref.whole main_v1_scv
abbrev oV : Memref sig .scVector .hbm S262144x128 .f32 := Memref.whole main_v2_scv
abbrev posV : Memref sig .scVector .vmem S32 .i32 := Memref.whole cc0_scratch0
abbrev idxV : Memref sig .scVector .vmem S128 .i32 := Memref.whole cc0_scratch1
abbrev valV : Memref sig .scVector .vmem S128x128 .f32 := Memref.whole cc0_scratch2
abbrev shV : Memref sig .scVector .shared S8192x128 .f32 := Memref.whole cc0_scratch3

/-- The tile's rows of the new values, its rows of the shared memory, its `t`-th block of 512 output rows, the 512 rows
    the fill reads, and the whole output as the scatter addresses it. -/
abbrev aRows (L : grid0.Coords) : Memref sig .scVector .hbm S128x128 .f32 :=
  aV.slice (Rect.unit (s := S4096x128) (k0_off3 L) S128x128.size (k0_off3_inb L)) (fun _ => rfl)
abbrev shRows (L : grid0.Coords) : Memref sig .scVector .shared S512x128 .f32 :=
  shV.slice (Rect.unit (s := S8192x128) (k0_off1 L) S512x128.size (k0_off1_inb L)) (fun _ => rfl)
abbrev oRows (L : grid0.Coords) (t : Fin 16) : Memref sig .scVector .hbm S512x128 .f32 :=
  oV.slice (Rect.unit (s := S262144x128) (k0_off2 L (BitVec.ofNat 32 (512 * t.val))) S512x128.size (k0_off2_inb L t)) (fun _ => rfl)
abbrev zRows : Memref sig .scVector .hbm S512x128 .f32 :=
  zV.slice (Rect.unit (s := S262144x128) ![0, 0] S512x128.size inb_S262144x128_S512x128_0_0) (fun _ => rfl)
abbrev oAll : Memref sig .scVector .hbm S262144x128 .f32 :=
  oV.slice (Rect.unit (s := S262144x128) ![0, 0] S262144x128.size inb_S262144x128_S262144x128_0_0) (fun _ => rfl)

end Cert.Proof

end
-- ==== Proof.Rows.lean ====
/-
  The element sets of the SparseCore call, told by coordinates: which places of the output, of the new values and of the
  shared memory a tile's views hold; these sets are pairwise disjoint and cover their arrays. Also the contents that the
  call leaves: `fillF` (the first 512 rows of the cache, repeated) and `outF` (the new values on the rows the indices
  name, the fill elsewhere).
-/
module

public import proofs.«01_k».proof.Proof.Setup

@[expose] public section

noncomputable section

namespace Cert.Proof

open Cert.KernelIdeal Cert.KernelIdeal.Gen
open Idealize.ShloMosaic

variable {F : FTy → Type}

/-! ## Places by their coordinates -/

def ixP (i : Fin 32) : S32.Idx := fun a => match a with | ⟨0, _⟩ => i
def ixN (n : Fin 128) : S128.Idx := fun a => match a with | ⟨0, _⟩ => n
def ixA (r : Fin 4096) (c : Fin 128) : S4096x128.Idx := fun a => match a with | ⟨0, _⟩ => r | ⟨1, _⟩ => c
def ixZ (r : Fin 262144) (c : Fin 128) : S262144x128.Idx := fun a => match a with | ⟨0, _⟩ => r | ⟨1, _⟩ => c

/-- A place's row and column, as numbers below the extents. -/
def rowZ (x : S262144x128.Idx) : Fin 262144 := ⟨(x 0).val, (x 0).isLt⟩
def colZ (x : S262144x128.Idx) : Fin 128 := ⟨(x 1).val, (x 1).isLt⟩

theorem ixP_val (x : S32.Idx) : ixP ⟨(x 0).val, (x 0).isLt⟩ = x := funext fun a => match a with | ⟨0, _⟩ => rfl

theorem wid_lt (L : grid0.Coords) : (L 0).val < 2 ∧ (L 1).val < 16 := ⟨(L 0).isLt, (L 1).isLt⟩

theorem wid_val (L : grid0.Coords) : (wid L).val = 2 * (L 1).val + (L 0).val := rfl

/-! ## The contents the call leaves -/

/-- The fill: row `r` of the output is row `r mod 512` of the cache. -/
def fillF (z : S262144x128.Idx → Elt F .f32) : S262144x128.Idx → Elt F .f32 := fun x =>
  z (ixZ ⟨(x 0).val % 512, by have := (x 0).isLt; omega⟩ (colZ x))

/-- The output: on a row `2048 b + p` where `p` is the `i`-th index, row `32 b + i` of the new values; the fill elsewhere. -/
def outF (p : S32.Idx → BitVec 32) (a : S4096x128.Idx → Elt F .f32) (z : S262144x128.Idx → Elt F .f32) : S262144x128.Idx → Elt F .f32 :=
  open scoped Classical in
  fun x => if h : ∃ i : Fin 32, (p (ixP i)).toNat = (x 0).val % 2048
    then a (ixA ⟨(x 0).val / 2048 * 32 + h.choose.val, by have := (rowZ x).isLt; have := h.choose.isLt; simp only [rowZ] at *; omega⟩ (colZ x))
    else fillF z x

/-- What the proof needs of the indices: each is a row of the cache, and no two are the same. -/
def PosOK (p : S32.Idx → BitVec 32) : Prop :=
  (∀ i : Fin 32, (p (ixP i)).toNat < 2048) ∧ ∀ i j : Fin 32, (p (ixP i)).toNat = (p (ixP j)).toNat → i = j

theorem outF_hit {p : S32.Idx → BitVec 32} (hp : PosOK p) (a : S4096x128.Idx → Elt F .f32) (z : S262144x128.Idx → Elt F .f32)
    (x : S262144x128.Idx) (i : Fin 32) (h : (p (ixP i)).toNat = (x 0).val % 2048) (r : Fin 4096) (hr : r.val = (x 0).val / 2048 * 32 + i.val) :
    outF p a z x = a (ixA r (colZ x)) := by
  have hex : ∃ i : Fin 32, (p (ixP i)).toNat = (x 0).val % 2048 := ⟨i, h⟩
  unfold outF
  rw [dif_pos hex]
  have hc : hex.choose = i := hp.2 _ _ (hex.choose_spec.trans h.symm)
  congr 2
  apply Fin.ext
  simp only [hc, hr]

theorem outF_miss (p : S32.Idx → BitVec 32) (a : S4096x128.Idx → Elt F .f32) (z : S262144x128.Idx → Elt F .f32)
    (x : S262144x128.Idx) (h : ¬ ∃ i : Fin 32, (p (ixP i)).toNat = (x 0).val % 2048) : outF p a z x = fillF z x := by
  unfold outF
  rw [dif_neg h]

/-! ## The tile's sets -/

/-- The output rows of tile number `w`, and its rows of the new values. -/
def oSet (w : Fin 32) : Finset S262144x128.Idx := Finset.univ.filter fun x => (x 0).val / 8192 = w.val
def aSet (w : Fin 32) : Finset S4096x128.Idx := Finset.univ.filter fun x => (x 0).val / 128 = w.val
/-- The rows of the shared memory of tile number `s` of a SparseCore. -/
def sSet (s : Fin 16) : Finset S8192x128.Idx := Finset.univ.filter fun x => (x 0).val / 512 = s.val

theorem mem_oRows (L : grid0.Coords) (t : Fin 16) (x : S262144x128.Idx) :
    x ∈ (oRows L t).view.set ↔ 8192 * (wid L).val + 512 * t.val ≤ (x 0).val ∧ (x 0).val < 8192 * (wid L).val + 512 * t.val + 512 := by
  have e : (oRows L t).view.set = (Rect.unit (s := S262144x128) (k0_off2 L (BitVec.ofNat 32 (512 * t.val))) S512x128.size (k0_off2_inb L t)).set := View.set_slice_whole _ _
  rw [e, Rect.mem_set_unit, wid_val]
  simp only [k0_off2_eq]
  constructor
  · intro h
    have h0 := h 0
    change 16384 * (L 1).val + 8192 * (L 0).val + 512 * t.val ≤ (x 0).val ∧ (x 0).val < 16384 * (L 1).val + 8192 * (L 0).val + 512 * t.val + 512 at h0
    omega
  · intro h a
    match a with
    | ⟨0, _⟩ =>
      change 16384 * (L 1).val + 8192 * (L 0).val + 512 * t.val ≤ (x 0).val ∧ (x 0).val < 16384 * (L 1).val + 8192 * (L 0).val + 512 * t.val + 512
      omega
    | ⟨1, _⟩ => exact ⟨Nat.zero_le _, by have h1 : (x 1).val < 128 := (x 1).isLt; change (x 1).val < 0 + 128; omega⟩

theorem mem_aRows (L : grid0.Coords) (x : S4096x128.Idx) :
    x ∈ (aRows L).view.set ↔ 128 * (wid L).val ≤ (x 0).val ∧ (x 0).val < 128 * (wid L).val + 128 := by
  have e : (aRows L).view.set = (Rect.unit (s := S4096x128) (k0_off3 L) S128x128.size (k0_off3_inb L)).set := View.set_slice_whole _ _
  rw [e, Rect.mem_set_unit, wid_val]
  simp only [k0_off3_eq]
  constructor
  · intro h
    have h0 := h 0
    change 256 * (L 1).val + 128 * (L 0).val ≤ (x 0).val ∧ (x 0).val < 256 * (L 1).val + 128 * (L 0).val + 128 at h0
    omega
  · intro h a
    match a with
    | ⟨0, _⟩ =>
      change 256 * (L 1).val + 128 * (L 0).val ≤ (x 0).val ∧ (x 0).val < 256 * (L 1).val + 128 * (L 0).val + 128
      omega
    | ⟨1, _⟩ => exact ⟨Nat.zero_le _, by have h1 : (x 1).val < 128 := (x 1).isLt; change (x 1).val < 0 + 128; omega⟩

theorem mem_shRows (L : grid0.Coords) (x : S8192x128.Idx) :
    x ∈ (shRows L).view.set ↔ 512 * (L 1).val ≤ (x 0).val ∧ (x 0).val < 512 * (L 1).val + 512 := by
  have e : (shRows L).view.set = (Rect.unit (s := S8192x128) (k0_off1 L) S512x128.size (k0_off1_inb L)).set := View.set_slice_whole _ _
  rw [e, Rect.mem_set_unit]
  simp only [k0_off1_eq]
  constructor
  · intro h
    exact h 0
  · intro h a
    match a with
    | ⟨0, _⟩ => exact h
    | ⟨1, _⟩ => exact ⟨Nat.zero_le _, by have h1 : (x 1).val < 128 := (x 1).isLt; change (x 1).val < 0 + 128; omega⟩

/-- The tile's sixteen blocks of 512 rows are its output rows, and are pairwise disjoint. -/
theorem oSet_eq (L : grid0.Coords) : oSet (wid L) = Finset.univ.biUnion fun t : Fin 16 => (oRows L t).view.set := by
  ext x
  simp only [oSet, Finset.mem_filter, Finset.mem_univ, true_and, Finset.mem_biUnion]
  constructor
  · intro h
    refine ⟨⟨(x 0).val / 512 % 16, by omega⟩, (mem_oRows L _ x).mpr ?_⟩
    change 8192 * (wid L).val + 512 * ((x 0).val / 512 % 16) ≤ _ ∧ (x 0).val < 8192 * (wid L).val + 512 * ((x 0).val / 512 % 16) + 512
    omega
  · rintro ⟨t, ht⟩
    have h := (mem_oRows L t x).mp ht
    have := t.isLt
    omega

theorem oRows_disjoint (L : grid0.Coords) (t t' : Fin 16) (h : t ≠ t') : Disjoint (oRows L t).view.set (oRows L t').view.set := by
  refine Finset.disjoint_left.mpr fun x hx hx' => h (Fin.ext ?_)
  have h1 := (mem_oRows L t x).mp hx
  have h2 := (mem_oRows L t' x).mp hx'
  omega

theorem aSet_eq (L : grid0.Coords) : aSet (wid L) = (aRows L).view.set := by
  ext x
  rw [mem_aRows]
  simp only [aSet, Finset.mem_filter, Finset.mem_univ, true_and]
  omega

theorem sSet_eq (L : grid0.Coords) : sSet (L 1) = (shRows L).view.set := by
  ext x
  rw [mem_shRows]
  simp only [sSet, Finset.mem_filter, Finset.mem_univ, true_and]
  omega

theorem oSet_cover : (Finset.univ : Finset S262144x128.Idx) = Finset.univ.biUnion oSet := by
  ext x
  simp only [oSet, Finset.mem_filter, Finset.mem_univ, true_and, Finset.mem_biUnion, true_iff]
  exact ⟨⟨(x 0).val / 8192, by have h : (x 0).val < 262144 := (x 0).isLt; omega⟩, rfl⟩
theorem aSet_cover : (Finset.univ : Finset S4096x128.Idx) = Finset.univ.biUnion aSet := by
  ext x
  simp only [aSet, Finset.mem_filter, Finset.mem_univ, true_and, Finset.mem_biUnion, true_iff]
  exact ⟨⟨(x 0).val / 128, by have h : (x 0).val < 4096 := (x 0).isLt; omega⟩, rfl⟩
theorem sSet_cover : (Finset.univ : Finset S8192x128.Idx) = Finset.univ.biUnion sSet := by
  ext x
  simp only [sSet, Finset.mem_filter, Finset.mem_univ, true_and, Finset.mem_biUnion, true_iff]
  exact ⟨⟨(x 0).val / 512, by have h : (x 0).val < 8192 := (x 0).isLt; omega⟩, rfl⟩

theorem oSet_disjoint (w w' : Fin 32) (h : w ≠ w') : Disjoint (oSet w) (oSet w') := by
  refine Finset.disjoint_left.mpr fun x hx hx' => h (Fin.ext ?_)
  simp only [oSet, Finset.mem_filter, Finset.mem_univ, true_and] at hx hx'
  omega
theorem aSet_disjoint (w w' : Fin 32) (h : w ≠ w') : Disjoint (aSet w) (aSet w') := by
  refine Finset.disjoint_left.mpr fun x hx hx' => h (Fin.ext ?_)
  simp only [aSet, Finset.mem_filter, Finset.mem_univ, true_and] at hx hx'
  omega
theorem sSet_disjoint (s s' : Fin 16) (h : s ≠ s') : Disjoint (sSet s) (sSet s') := by
  refine Finset.disjoint_left.mpr fun x hx hx' => h (Fin.ext ?_)
  simp only [sSet, Finset.mem_filter, Finset.mem_univ, true_and] at hx hx'
  omega

/-! ## What the tile's views read -/

/-- Row `j` of the tile's new values is row `128 w + j` of the array. -/
theorem aRows_emb (L : grid0.Coords) (j : S128x128.Idx) :
    (aRows L).view.emb j = ixA ⟨128 * (wid L).val + (j 0).val, by have h : (j 0).val < 128 := (j 0).isLt; have := (wid L).isLt; omega⟩ ⟨(j 1).val, (j 1).isLt⟩ := by
  refine funext fun a => Fin.ext ?_
  change k0_off3 L a + 1 * (j a).val = _
  rw [k0_off3_eq]
  match a with
  | ⟨0, _⟩ =>
    change 256 * (L 1).val + 128 * (L 0).val + 1 * (j 0).val = 128 * (wid L).val + (j 0).val
    rw [wid_val]; omega
  | ⟨1, _⟩ =>
    change 0 + 1 * (j 1).val = (j 1).val
    omega

theorem zRows_emb (j : S512x128.Idx) :
    zRows.view.emb j = ixZ ⟨(j 0).val, by have h : (j 0).val < 512 := (j 0).isLt; omega⟩ ⟨(j 1).val, (j 1).isLt⟩ := by
  refine funext fun a => Fin.ext ?_
  match a with
  | ⟨0, _⟩ =>
    change 0 + 1 * (j 0).val = (j 0).val
    omega
  | ⟨1, _⟩ =>
    change 0 + 1 * (j 1).val = (j 1).val
    omega

/-- A place of the tile's `t`-th block comes from a row of the fill's 512. -/
theorem oRows_emb_fill (L : grid0.Coords) (t : Fin 16) (z : S262144x128.Idx → Elt F .f32) (j : S512x128.Idx) :
    z (zRows.view.emb j) = fillF z ((oRows L t).view.emb j) := by
  unfold fillF
  rw [zRows_emb]
  congr 1
  have h0 : (((oRows L t).view.emb j) 0).val = 16384 * (L 1).val + 8192 * (L 0).val + 512 * t.val + (j 0).val := by
    change k0_off2 L (BitVec.ofNat 32 (512 * t.val)) 0 + 1 * (j 0).val = _
    rw [k0_off2_eq]
    change 16384 * (L 1).val + 8192 * (L 0).val + 512 * t.val + 1 * (j 0).val = _
    omega
  have h1 : (((oRows L t).view.emb j) 1).val = (j 1).val := by
    change k0_off2 L (BitVec.ofNat 32 (512 * t.val)) 1 + 1 * (j 1).val = _
    rw [k0_off2_eq]
    change 0 + 1 * (j 1).val = _
    omega
  have hj : (j 0).val < 512 := (j 0).isLt
  unfold ixZ
  refine funext fun a => Fin.ext ?_
  match a with
  | ⟨0, _⟩ =>
    change (j 0).val = (((oRows L t).view.emb j) 0).val % 512
    rw [h0]; omega
  | ⟨1, _⟩ => exact h1.symm

end Cert.Proof

end
-- ==== Proof.TileVal.lean ====
/-
  The values one tile leaves: a filled block is `fillF`, and the scatter of the tile's 128 new rows over the filled
  blocks is `outF`.
-/
module

public import proofs.«01_k».proof.Proof.Rows

@[expose] public section

noncomputable section

namespace Cert.Proof

open Cert.KernelIdeal Cert.KernelIdeal.Gen
open Idealize.ShloMosaic
open Idealize.ShloMosaic.SparseCore (S V T scatterBuf scatterBuf_of_mem scatterBuf_of_not_mem scatterRowPayload namedRows namedRows_eq)

variable {F : FTy → Type}

/-! ## The fill -/

/-- A block written with the fill's 512 rows holds `fillF`. -/
theorem fill_value (L : grid0.Coords) (t : Fin 16) (z : S262144x128.Idx → Elt F .f32) (ov : (oRows L t).view.ty.Contents (Elt F))
    (w : S512x128.Idx → Elt F .f32) (hw : ∀ j, w j = z (zRows.view.emb j)) (x : S262144x128.Idx) (hx : x ∈ (oRows L t).view.set) :
    (oRows L t).view.writes (Elt F) ov [⟨Rect.whole S512x128, w⟩] x = fillF z x := by
  obtain ⟨j, -, rfl⟩ := Finset.mem_map.mp hx
  rw [← View.write_univ_eq_writes_whole]
  refine (View.write_emb_of_mem _ _ (Finset.mem_univ _)).trans ?_
  exact (hw j).trans (oRows_emb_fill L t z j)

/-! ## The scatter -/

abbrev gth : S262144x128.Gathers 0 S128x128 := gathers_S262144x128_S128x128

theorem oAll_emb (x : S262144x128.Idx) : oAll.view.emb x = x := by
  refine funext fun a => Fin.ext ?_
  match a with
  | ⟨0, _⟩ => change 0 + 1 * (x 0).val = (x 0).val; omega
  | ⟨1, _⟩ => change 0 + 1 * (x 1).val = (x 1).val; omega

/-- A place is in the target's row `r` when `r` is its row. -/
theorem mem_row (r : Fin (S262144x128.size gth.axis)) (x : S262144x128.Idx) :
    x ∈ (oAll.view.slice (S262144x128.rowRect gth.axis r)).set ↔ (x 0).val = r.val := by
  constructor
  · intro hx
    obtain ⟨j, -, rfl⟩ := Finset.mem_map.mp hx
    have e : (oAll.view.slice (S262144x128.rowRect gth.axis r)).emb j = (S262144x128.rowRect gth.axis r).emb j := oAll_emb _
    rw [e]
    have := Shape.rowRect_emb_val gth.axis r j (0 : Fin 2)
    rw [this]; rfl
  · intro hx
    have hr : r = x gth.axis := Fin.ext hx.symm
    subst hr
    refine Finset.mem_map.mpr ⟨S262144x128.rowProj gth.axis x, Finset.mem_univ _, ?_⟩
    refine (oAll_emb _).trans ?_
    exact Shape.rowRect_emb_rowProj gth.axis x

/-- The row of the output that the tile's `k`-th new row goes to. -/
def RowOK (p : S32.Idx → BitVec 32) (L : grid0.Coords) (r : Fin 128 → Fin (S262144x128.size gth.axis)) : Prop :=
  ∀ k : Fin 128, (r k).val = 2048 * (4 * (wid L).val + k.val / 32) + (p (ixP ⟨k.val % 32, Nat.mod_lt _ (by decide)⟩)).toNat

theorem rowOK_inj {p : S32.Idx → BitVec 32} (hp : PosOK p) {L : grid0.Coords} {r : Fin 128 → Fin (S262144x128.size gth.axis)} (hr : RowOK p L r) : Function.Injective r := by
  intro k k' hkk
  have h := congrArg Fin.val hkk
  rw [hr k, hr k'] at h
  have b := hp.1 ⟨k.val % 32, Nat.mod_lt _ (by decide)⟩
  have b' := hp.1 ⟨k'.val % 32, Nat.mod_lt _ (by decide)⟩
  have e := congrArg Fin.val (hp.2 ⟨k.val % 32, Nat.mod_lt _ (by decide)⟩ ⟨k'.val % 32, Nat.mod_lt _ (by decide)⟩ (by omega))
  change k.val % 32 = k'.val % 32 at e
  exact Fin.ext (by omega)

theorem rowOK_mem {p : S32.Idx → BitVec 32} (hp : PosOK p) {L : grid0.Coords} {r : Fin 128 → Fin (S262144x128.size gth.axis)} (hr : RowOK p L r) (k : Fin 128)
    (x : S262144x128.Idx) (hx : (x 0).val = (r k).val) : x ∈ oSet (wid L) := by
  simp only [oSet, Finset.mem_filter, Finset.mem_univ, true_and]
  have b := hp.1 ⟨k.val % 32, Nat.mod_lt _ (by decide)⟩
  have := hr k
  omega

def ixV (n m : Fin 128) : S128x128.Idx := fun a => match a with | ⟨0, _⟩ => n | ⟨1, _⟩ => m

/-- The scatter's `k`-th row is row `k` of the tile's new values. -/
theorem payload_value (d : Dev nD) (L : grid0.Coords) (k : Fin 128) (fv : S128x128.Idx → Elt F .f32) (j : (S262144x128.rowShape gth.axis).Idx) :
    scatterRowPayload (V d (cV L) (jV L)) valV gth fv k j = fv (ixV k ⟨(j (1 : Fin 2)).val, (j (1 : Fin 2)).isLt⟩) := by
  change fv (((valV.slice (S128x128.rowRect gth.axis' k) (S128x128.stride_rowRect gth.axis' k)).cast gth.rowShape_eq rfl).view.emb j) = _
  refine congrArg fv (funext fun b => Fin.ext ?_)
  change ((S128x128.rowRect gth.axis' k).emb ((Shape.idxEquiv gth.rowShape_eq).symm j) b).val = _
  refine (Shape.rowRect_emb_val gth.axis' k _ b).trans ?_
  match b with
  | ⟨0, _⟩ => rfl
  | ⟨1, _⟩ => exact (Shape.idxEquiv_symm_apply_val gth.rowShape_eq j (1 : Fin 2))

/-- The scatter over the fill is `outF`. -/
theorem scatter_value (d : Dev nD) (L : grid0.Coords) {p : S32.Idx → BitVec 32} (hp : PosOK p) (a : S4096x128.Idx → Elt F .f32) (z : S262144x128.Idx → Elt F .f32)
    (r : Fin 128 → Fin (S262144x128.size gth.axis)) (hr : RowOK p L r) (fv : S128x128.Idx → Elt F .f32) (hv : ∀ j, fv j = a ((aRows L).view.emb j))
    (x : S262144x128.Idx) (hx : x ∈ oSet (wid L)) :
    scatterBuf (V d (cV L) (jV L)) oAll.view gth.axis r (scatterRowPayload (V d (cV L) (jV L)) valV gth fv) (fillF z) x = outF p a z x := by
  by_cases h : ∃ k : Fin 128, (x 0).val = (r k).val
  · obtain ⟨k, hk⟩ := h
    have hm := (mem_row (r k) x).mpr hk
    refine (scatterBuf_of_mem (V d (cV L) (jV L)) oAll.view gth.axis r (rowOK_inj hp hr) _ _ hm).trans ?_
    obtain ⟨j, -, rfl⟩ := Finset.mem_map.mp hm
    refine (View.write_emb_of_mem _ _ (Finset.mem_univ _)).trans ?_
    refine (payload_value d L k fv j).trans ((hv _).trans ?_)
    have e0 : ((oAll.view.slice (S262144x128.rowRect gth.axis (r k))).emb j (0 : Fin 2)).val = (r k).val := (mem_row (r k) _).mp hm
    have e1 : ((oAll.view.slice (S262144x128.rowRect gth.axis (r k))).emb j (1 : Fin 2)).val = (j (1 : Fin 2)).val := by
      have e : (oAll.view.slice (S262144x128.rowRect gth.axis (r k))).emb j = (S262144x128.rowRect gth.axis (r k)).emb j := oAll_emb _
      rw [e]
      exact Shape.rowRect_emb_val gth.axis (r k) j (1 : Fin 2)
    have hrk := hr k
    have b := hp.1 ⟨k.val % 32, Nat.mod_lt _ (by decide)⟩
    have hw := (wid L).isLt
    refine Eq.trans ?_ (outF_hit hp a z _ ⟨k.val % 32, Nat.mod_lt _ (by decide)⟩ (by rw [e0]; omega) ⟨128 * (wid L).val + k.val, by omega⟩
      (by rw [e0]; change 128 * (wid L).val + k.val = _ * 32 + k.val % 32; omega)).symm
    rw [aRows_emb]
    refine congrArg a (congrArg₂ ixA (Fin.ext ?_) (Fin.ext ?_))
    · rfl
    · exact e1.symm
  · refine (scatterBuf_of_not_mem (V d (cV L) (jV L)) oAll.view gth.axis r _ _ (fun hm => by
      rw [namedRows_eq] at hm
      obtain ⟨k, -, hk⟩ := Finset.mem_biUnion.mp hm
      exact h ⟨k, (mem_row (r k) x).mp hk⟩)).trans ?_
    refine (outF_miss p a z x ?_).symm
    rintro ⟨i, hi⟩
    simp only [oSet, Finset.mem_filter, Finset.mem_univ, true_and] at hx
    have hx0 := (rowZ x).isLt
    have e := hr ⟨(x 0).val / 2048 % 4 * 32 + i.val, by have := i.isLt; omega⟩
    have e2 : (⟨((x 0).val / 2048 % 4 * 32 + i.val) % 32, Nat.mod_lt _ (by decide)⟩ : Fin 32) = i := Fin.ext (by have := i.isLt; change _ % 32 = i.val; omega)
    simp only [e2] at e
    refine h ⟨⟨(x 0).val / 2048 % 4 * 32 + i.val, by have := i.isLt; omega⟩, ?_⟩
    rw [e]
    have := i.isLt
    simp only [rowZ] at hx0
    omega

end Cert.Proof

end
-- ==== Proof.TileIdx.lean ====
/-
  The list of rows a tile computes before its scatter: word `n` is index `n mod 32` plus 2048 times the number of the
  slice, `4 w + n / 32`. The sixteen-word pieces the tile stores are this list's, and the words name the rows of `RowOK`.
-/
module

public import Idealize.ShloMosaic.Lib.Pipeline.Value
public import proofs.«01_k».proof.Proof.TileVal

@[expose] public section

noncomputable section

namespace Cert.Proof

open Cert.KernelIdeal Cert.KernelIdeal.Gen
open Idealize.ShloMosaic
open Idealize.ShloMosaic.SparseCore (S V T)

variable {F : FTy → Type}

/-- The tile's number as a word. -/
def widW (L : grid0.Coords) : BitVec 32 := Scalar.addi (Scalar.muli (BitVec.ofNat 32 (L 1).val) 2#32) (BitVec.ofNat 32 (L 0).val)

/-- The list of rows. -/
def idxBuf (p : S32.Idx → BitVec 32) (L : grid0.Coords) : S128.Idx → BitVec 32 := fun n =>
  p (ixP ⟨(n 0).val % 32, Nat.mod_lt _ (by decide)⟩) + (widW L * 4#32 + BitVec.ofNat 32 ((n 0).val / 32)) * 2048#32

theorem widW_toNat (L : grid0.Coords) : (widW L).toNat = (wid L).val := by
  have h0 : (L 0).val < 2 := (L 0).isLt
  have h1 : (L 1).val < 16 := (L 1).isLt
  change (BitVec.ofNat 32 (L 1).val * 2#32 + BitVec.ofNat 32 (L 0).val).toNat = 2 * (L 1).val + (L 0).val
  simp only [BitVec.toNat_add, BitVec.toNat_mul, BitVec.toNat_ofNat]
  omega

theorem idxBuf_toNat {p : S32.Idx → BitVec 32} (hp : PosOK p) (L : grid0.Coords) (n : S128.Idx) :
    (idxBuf p L n).toNat = 2048 * (4 * (wid L).val + (n 0).val / 32) + (p (ixP ⟨(n 0).val % 32, Nat.mod_lt _ (by decide)⟩)).toNat := by
  have b := hp.1 ⟨(n 0).val % 32, Nat.mod_lt _ (by decide)⟩
  have hw := (wid L).isLt
  have hn : (n 0).val < 128 := (n 0).isLt
  unfold idxBuf
  simp only [BitVec.toNat_add, BitVec.toNat_mul, BitVec.toNat_ofNat, widW_toNat]
  omega

/-- The indices as the tile reads them back from its own copy. -/
theorem read_pos (d : Dev nD) (L : grid0.Coords) (p : S32.Idx → BitVec 32) (fp : posV.view.ty.Contents (Elt F)) (o : ℕ)
    (hb : ∀ a, (![o] : Fin 1 → ℕ) a + S16.size a ≤ S32.size a) (j : S16.Idx) (h : o + (j 0).val < 32) :
    posV.view.readAt (Elt F) (Rect.unit (s := S32) ![o] S16.size hb).toLoadRect
      (posV.view.write (Elt F) fp (ReadAs.same.apply (pV.view.read (Elt F) p)) Finset.univ) j = p (ixP ⟨o + (j 0).val, h⟩) := by
  have e : posV.view.write (Elt F) fp (ReadAs.same.apply (pV.view.read (Elt F) p)) Finset.univ = p := by
    exact View.write_whole_univ _ _ _
  rw [e]
  refine congrArg p (funext fun a => Fin.ext ?_)
  match a with
  | ⟨0, _⟩ => change o + 1 * (j 0).val = o + (j 0).val; omega

/-- A sixteen-word piece: places `o + 32 k …` of the list, for `o` 0 or 16. -/
theorem piece_value (d : Dev nD) (L : grid0.Coords) (p : S32.Idx → BitVec 32) (fp : posV.view.ty.Contents (Elt F)) (o k q : ℕ) (kw : BitVec 32)
    (hb : ∀ a, (![o] : Fin 1 → ℕ) a + S16.size a ≤ S32.size a) (hq : ∀ a, (![q] : Fin 1 → ℕ) a + S16.size a ≤ S128.size a)
    (ho : o + 16 ≤ 32) (he : q = 32 * k + o) (hk : kw = BitVec.ofNat 32 k) (h1 h2 : S16.ShapeCasts S16) (j : S16.Idx) :
    shapeCast S16 (addi (shapeCast S16 (posV.view.readAt (Elt F) (Rect.unit (s := S32) ![o] S16.size hb).toLoadRect
      (posV.view.write (Elt F) fp (ReadAs.same.apply (pV.view.read (Elt F) p)) Finset.univ)) h1)
        (broadcast S16 (Scalar.muli (Scalar.addi (Scalar.muli (widW L) 4#32) kw) 2048#32))) h2 j
      = idxBuf p L ((Rect.unit (s := S128) ![q] S16.size hq).emb j) := by
  have hj : (j 0).val < 16 := (j 0).isLt
  rw [shapeCast_self]
  refine (congrArg (fun v => v + (widW L * 4#32 + kw) * 2048#32) (congrFun (shapeCast_self _ h1) j)).trans ?_
  change posV.view.readAt (Elt F) (Rect.unit (s := S32) ![o] S16.size hb).toLoadRect
      (posV.view.write (Elt F) fp (ReadAs.same.apply (pV.view.read (Elt F) p)) Finset.univ) j + (widW L * 4#32 + kw) * 2048#32 = _
  rw [read_pos d L p fp o hb j (by omega)]
  unfold idxBuf
  have en : ((Rect.unit (s := S128) ![q] S16.size hq).emb j 0).val = q + (j 0).val := by
    change q + 1 * (j 0).val = _; omega
  rw [hk]
  congr 3
  · refine Fin.ext ?_
    change o + (j 0).val = _ % 32
    rw [en]; omega
  · rw [en]
    congr 1
    omega

end Cert.Proof

end
-- ==== Proof.TilePts.lean ====
/-
  What a tile holds, restated: its sixteen blocks are its output rows; a block written with the fill holds `fillF`; the
  list written piece by piece is `idxBuf`.
-/
module

public import Idealize.ShloMosaic.Lib.Writes
public import proofs.«01_k».proof.Proof.TileIdx

@[expose] public section

noncomputable section

namespace Cert.Proof

open Cert.KernelIdeal Cert.KernelIdeal.Gen
open Idealize.ShloMosaic
open Idealize.ShloMosaic.SparseCore (S V T scatterBuf scatterBuf_of_mem scatterBuf_of_not_mem scatterRowPayload namedRows namedRows_eq rows)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ

/-- A family over sixteen, told one by one. -/
theorem sixteen (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- The tile's output rows are its sixteen blocks. -/
theorem o_blocks (d : Dev nD) (L : grid0.Coords) (f : Buf (Elt F) (oLoc d)) :
    (oLoc d ↦[oSet (wid L)]{fullShare} f : sProp 𝕄)
      = bigSep Finset.univ fun t : Fin 16 => (oRows L t).view.loc (V d (cV L) (jV L)) ↦[(oRows L t).view.set]{fullShare} f := by
  rw [oSet_eq]
  exact pointsTo_biUnion _ _ fun t _ t' _ h => oRows_disjoint L t t' h

theorem fill_pt (d : Dev nD) (L : grid0.Coords) (t : Fin 16) (z : S262144x128.Idx → Elt F .f32) (ov : (oRows L t).view.ty.Contents (Elt F))
    (w : S512x128.Idx → Elt F .f32) (hw : ∀ j, w j = z (zRows.view.emb j)) :
    ((oRows L t).view.loc (V d (cV L) (jV L)) ↦[(oRows L t).view.set]{fullShare} (oRows L t).view.writes (Elt F) ov [⟨Rect.whole S512x128, w⟩] : sProp 𝕄)
      ⊢ (oRows L t).view.loc (V d (cV L) (jV L)) ↦[(oRows L t).view.set]{fullShare} fillF z :=
  Entails.of_eq (pointsTo_congr fun x hx => fill_value L t z ov w hw x hx)

theorem idx_pt (d : Dev nD) (L : grid0.Coords) (p : S32.Idx → BitVec 32) (fi : idxV.view.ty.Contents (Elt F))
    (hq0 : ∀ a, (![0] : Fin 1 → ℕ) a + S16.size a ≤ S128.size a) (hq1 : ∀ a, (![16] : Fin 1 → ℕ) a + S16.size a ≤ S128.size a)
    (hq2 : ∀ a, (![32] : Fin 1 → ℕ) a + S16.size a ≤ S128.size a) (hq3 : ∀ a, (![48] : Fin 1 → ℕ) a + S16.size a ≤ S128.size a)
    (hq4 : ∀ a, (![64] : Fin 1 → ℕ) a + S16.size a ≤ S128.size a) (hq5 : ∀ a, (![80] : Fin 1 → ℕ) a + S16.size a ≤ S128.size a)
    (hq6 : ∀ a, (![96] : Fin 1 → ℕ) a + S16.size a ≤ S128.size a) (hq7 : ∀ a, (![112] : Fin 1 → ℕ) a + S16.size a ≤ S128.size a)
    (w0 w1 w2 w3 w4 w5 w6 w7 : S16.Idx → BitVec 32)
    (h0 : ∀ j, w0 j = idxBuf p L ((Rect.unit (s := S128) ![0] S16.size hq0).emb j))
    (h1 : ∀ j, w1 j = idxBuf p L ((Rect.unit (s := S128) ![16] S16.size hq1).emb j))
    (h2 : ∀ j, w2 j = idxBuf p L ((Rect.unit (s := S128) ![32] S16.size hq2).emb j))
    (h3 : ∀ j, w3 j = idxBuf p L ((Rect.unit (s := S128) ![48] S16.size hq3).emb j))
    (h4 : ∀ j, w4 j = idxBuf p L ((Rect.unit (s := S128) ![64] S16.size hq4).emb j))
    (h5 : ∀ j, w5 j = idxBuf p L ((Rect.unit (s := S128) ![80] S16.size hq5).emb j))
    (h6 : ∀ j, w6 j = idxBuf p L ((Rect.unit (s := S128) ![96] S16.size hq6).emb j))
    (h7 : ∀ j, w7 j = idxBuf p L ((Rect.unit (s := S128) ![112] S16.size hq7).emb j)) :
    (idxV.view.loc (V d (cV L) (jV L)) ↦{fullShare} idxV.view.writes (Elt F) fi
        [⟨Rect.unit (s := S128) ![112] S16.size hq7, w7⟩, ⟨Rect.unit (s := S128) ![96] S16.size hq6, w6⟩, ⟨Rect.unit (s := S128) ![80] S16.size hq5, w5⟩,
          ⟨Rect.unit (s := S128) ![64] S16.size hq4, w4⟩, ⟨Rect.unit (s := S128) ![48] S16.size hq3, w3⟩, ⟨Rect.unit (s := S128) ![32] S16.size hq2, w2⟩,
          ⟨Rect.unit (s := S128) ![16] S16.size hq1, w1⟩, ⟨Rect.unit (s := S128) ![0] S16.size hq0, w0⟩] : sProp 𝕄)
      ⊢ idxV.view.loc (V d (cV L) (jV L)) ↦{fullShare} idxBuf p L := by
  refine Entails.of_eq (congrArg _ (funext fun n => ?_))
  refine (congrFun (View.read_whole (Val := Elt F) cc0_scratch1 _) n).symm.trans ?_
  refine View.read_writes_apply_of_pieces (v := idxV.view) (Val := Elt F) (f := fi) (idxBuf p L) _ ?_ n ?_
  · intro q hq j
    simp only [List.mem_cons, List.not_mem_nil, or_false] at hq
    rcases hq with rfl | rfl | rfl | rfl | rfl | rfl | rfl | rfl
    exacts [h7 j, h6 j, h5 j, h4 j, h3 j, h2 j, h1 j, h0 j]
  · have hn : (n 0).val < 128 := (n 0).isLt
    have key : ∀ (o : ℕ) (hb : ∀ a, (![o] : Fin 1 → ℕ) a + S16.size a ≤ S128.size a), o ≤ (n 0).val → (n 0).val < o + 16 →
        n ∈ (Rect.unit (s := S128) ![o] S16.size hb).set := fun o hb ha hb' => by
      rw [Rect.mem_set_unit]
      intro a
      match a with
      | ⟨0, _⟩ => exact ⟨ha, hb'⟩
    by_cases c1 : (n 0).val < 16
    · exact ⟨⟨_, w0⟩, .tail _ (.tail _ (.tail _ (.tail _ (.tail _ (.tail _ (.tail _ (.head _))))))), key 0 hq0 (by omega) (by omega)⟩
    by_cases c2 : (n 0).val < 32
    · exact ⟨⟨_, w1⟩, .tail _ (.tail _ (.tail _ (.tail _ (.tail _ (.tail _ (.head _)))))), key 16 hq1 (by omega) (by omega)⟩
    by_cases c3 : (n 0).val < 48
    · exact ⟨⟨_, w2⟩, .tail _ (.tail _ (.tail _ (.tail _ (.tail _ (.head _))))), key 32 hq2 (by omega) (by omega)⟩
    by_cases c4 : (n 0).val < 64
    · exact ⟨⟨_, w3⟩, .tail _ (.tail _ (.tail _ (.tail _ (.head _)))), key 48 hq3 (by omega) (by omega)⟩
    by_cases c5 : (n 0).val < 80
    · exact ⟨⟨_, w4⟩, .tail _ (.tail _ (.tail _ (.head _))), key 64 hq4 (by omega) (by omega)⟩
    by_cases c6 : (n 0).val < 96
    · exact ⟨⟨_, w5⟩, .tail _ (.tail _ (.head _)), key 80 hq5 (by omega) (by omega)⟩
    by_cases c7 : (n 0).val < 112
    · exact ⟨⟨_, w6⟩, .tail _ (.head _), key 96 hq6 (by omega) (by omega)⟩
    · exact ⟨⟨_, w7⟩, .head _, key 112 hq7 (by omega) (by omega)⟩

/-! ## The rows the list names -/

theorem rows_ok {p : S32.Idx → BitVec 32} (hp : PosOK p) (L : grid0.Coords) (hn : S128.numel = S128x128.size gth.axis')
    (hin : ∀ x, (idxV.view.read (Elt F) (idxBuf p L) x).toNat < S262144x128.size gth.axis) :
    RowOK p L (rows (idxV.view.read (Elt F) (idxBuf p L)) hn hin) := by
  intro k
  change (idxBuf p L (S128.rowMajor.symm (k.cast hn.symm))).toNat = _
  have e : ((S128.rowMajor.symm (k.cast hn.symm)) 0).val = k.val := by
    refine (Shape.rowMajor_val_one (S128.rowMajor.symm (k.cast hn.symm))).symm.trans ?_
    exact congrArg Fin.val (S128.rowMajor.apply_symm_apply (k.cast hn.symm))
  rw [idxBuf_toNat hp]
  simp only [e]

theorem idx_in {p : S32.Idx → BitVec 32} (hp : PosOK p) (L : grid0.Coords) (x : S128.Idx) :
    (idxV.view.read (Elt F) (idxBuf p L) x).toNat < S262144x128.size gth.axis := by
  change (idxBuf p L x).toNat < 262144
  rw [idxBuf_toNat hp]
  have b := hp.1 ⟨(x 0).val % 32, Nat.mod_lt _ (by decide)⟩
  have hw := (wid L).isLt
  have hn : (x 0).val < 128 := (x 0).isLt
  omega

theorem rows_sub (d : Dev nD) {p : S32.Idx → BitVec 32} (hp : PosOK p) (L : grid0.Coords) (r : Fin 128 → Fin (S262144x128.size gth.axis)) (hr : RowOK p L r) :
    namedRows (V d (cV L) (jV L)) oAll.view gth.axis r ⊆ oSet (wid L) := by
  intro x hx
  rw [namedRows_eq] at hx
  obtain ⟨k, -, hk⟩ := Finset.mem_biUnion.mp hx
  exact rowOK_mem hp hr k x ((mem_row (r k) x).mp hk)

/-- The scatter's rows and the rest of the tile's rows together hold `outF`. -/
theorem out_pt (d : Dev nD) (L : grid0.Coords) {p : S32.Idx → BitVec 32} (hp : PosOK p) (a : S4096x128.Idx → Elt F .f32) (z : S262144x128.Idx → Elt F .f32)
    (r : Fin 128 → Fin (S262144x128.size gth.axis)) (hr : RowOK p L r) (fv : S128x128.Idx → Elt F .f32) (hv : ∀ j, fv j = a ((aRows L).view.emb j)) :
    iprop((oAll.view.loc (V d (cV L) (jV L)) ↦[namedRows (V d (cV L) (jV L)) oAll.view gth.axis r]{fullShare}
          scatterBuf (V d (cV L) (jV L)) oAll.view gth.axis r (scatterRowPayload (V d (cV L) (jV L)) valV gth fv) (fillF z))
        ∗ (oAll.view.loc (V d (cV L) (jV L)) ↦[oSet (wid L) \ namedRows (V d (cV L) (jV L)) oAll.view gth.axis r]{fullShare} fillF z))
      ⊢ (oLoc d ↦[oSet (wid L)]{fullShare} outF p a z : sProp 𝕄) := by
  refine (sep_mono .rfl (Entails.of_eq (SparseCore.pointsTo_rest_scatterBuf (V d (cV L) (jV L)) oAll.view gth.axis r
    (scatterRowPayload (V d (cV L) (jV L)) valV gth fv) (fillF z) (oSet (wid L))))).trans ?_
  refine (pointsTo_split_subset (rows_sub d hp L r hr)).2.trans ?_
  exact Entails.of_eq (pointsTo_congr fun x hx => scatter_value d L hp a z r hr fv hv x hx)

end Cert.Proof

end
-- ==== Proof.Tile.lean ====
/-
  One tile's run: from its rows of the arrays and its own buffers to the same with the output rows holding `outF`.
-/
module

public import proofs.«01_k».proof.Proof.TilePts

@[expose] public section

noncomputable section

namespace Cert.Proof

open Cert.KernelIdeal Cert.KernelIdeal.Gen

open Idealize.ShloMosaic
open Idealize.ShloMosaic.SparseCore (S V T scatterBuf scatterRowPayload namedRows rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

/-- What a fill copies: the 512 rows, through the shared memory. -/
theorem fill_word (L : grid0.Coords) (z : S262144x128.Idx → Elt F .f32) (fsh : (shRows L).view.ty.Contents (Elt F)) (j : S512x128.Idx) :
    (ReadAs.same.apply ((shRows L).view.read (Elt F) ((shRows L).view.writes (Elt F) fsh
      [⟨Rect.whole S512x128, ReadAs.same.apply (zRows.view.read (Elt F) z)⟩])) : S512x128.Idx → Elt F .f32) j = z (zRows.view.emb j) := by
  rw [← View.write_univ_eq_writes_whole _ fsh []]
  exact congrFun (View.read_write_univ (v := (shRows L).view) fsh (ReadAs.same.apply (zRows.view.read (Elt F) z))) j

/-- The tile's 128 new rows as it holds them. -/
theorem val_word (L : grid0.Coords) (a : S4096x128.Idx → Elt F .f32) (fv : valV.view.ty.Contents (Elt F)) (j : S128x128.Idx) :
    valV.view.write (Elt F) fv (ReadAs.same.apply ((aRows L).view.read (Elt F) a)) Finset.univ j = a ((aRows L).view.emb j) :=
  congrFun (View.write_whole_univ cc0_scratch2 fv (ReadAs.same.apply ((aRows L).view.read (Elt F) a))) j

set_option maxRecDepth 65536
set_option maxHeartbeats 8000000 in
theorem tile_run [∀ e, Nonempty (Elt F e)] (d : Dev nD) (L : grid0.Coords) (q : PosShare TreeShare)
    (pv : S32.Idx → BitVec 32) (hp : PosOK pv) (av : Buf (Elt F) (aLoc d)) (zv : Buf (Elt F) (zLoc d)) (ov : Buf (Elt F) (oLoc d))
    (fp : Buf (Elt F) ((V d (cV L) (jV L)).loc cc0_scratch0)) (fi : Buf (Elt F) ((V d (cV L) (jV L)).loc cc0_scratch1)) (fv : Buf (Elt F) ((V d (cV L) (jV L)).loc cc0_scratch2))
    (fsh : Buf (Elt F) (shLoc d (cV L)))
    (O : CellTallies nD τ sig (HIx 1)) (W : Waits sig (HIx 1))
    (_plan : Transfers.BatchOf (V d (cV L) (jV L)) (SemLoc.dma (sig := sig) cc0_scratch4.sem) 16 (windows := true)) :
    iprop((pV.view.loc (V d (cV L) (jV L)) ↦{q} pv) ∗ (zRows.view.loc (V d (cV L) (jV L)) ↦[zRows.view.set]{q} zv)
        ∗ ((aRows L).view.loc (V d (cV L) (jV L)) ↦[(aRows L).view.set]{fullShare} av)
        ∗ ((shRows L).view.loc (V d (cV L) (jV L)) ↦[(shRows L).view.set]{fullShare} fsh)
        ∗ (oLoc d ↦[oSet (wid L)]{fullShare} ov)
        ∗ (posV.view.loc (V d (cV L) (jV L)) ↦{fullShare} fp)
        ∗ (idxV.view.loc (V d (cV L) (jV L)) ↦{fullShare} fi)
        ∗ (valV.view.loc (V d (cV L) (jV L)) ↦{fullShare} fv)
        ∗ semVal (V d (cV L) (jV L), .dma cc0_scratch4.sem) 0
        ∗ semVal (V d (cV L) (jV L), .dma cc0_scratch5.sem) 0
        ∗ semVal (V d (cV L) (jV L), .dma cc0_scoped0.sem) 0
        ∗ semVal (V d (cV L) (jV L), .dma cc0_scoped1.sem) 0
        ∗ semVal (V d (cV L) (jV L), .dma cc0_scoped2.sem) 0
        ∗ owes (V d (cV L) (jV L)) O W ∗ Transfers.MayWaits (V d (cV L) (jV L)) (default : HIx 1) O)
      ⊢ (wp frame (wpE (defs₀ (F := F)) 𝒱₀ (V d (cV L) (jV L)) none) Set.univ
          (cc0_body L pV (Memref.isWhole_whole _) aV (Memref.isWhole_whole _) zV (Memref.isWhole_whole _) oV (Memref.isWhole_whole _)
            posV (Memref.isWhole_whole _) idxV (Memref.isWhole_whole _) valV (Memref.isWhole_whole _) shV (Memref.isWhole_whole _)
            cc0_scratch4 cc0_scratch5 cc0_scoped0 cc0_scoped1 cc0_scoped2)
          fun _ => iprop((pV.view.loc (V d (cV L) (jV L)) ↦{q} pv) ∗ (zRows.view.loc (V d (cV L) (jV L)) ↦[zRows.view.set]{q} zv)
            ∗ ((aRows L).view.loc (V d (cV L) (jV L)) ↦[(aRows L).view.set]{fullShare} av)
            ∗ (∃ f, (shRows L).view.loc (V d (cV L) (jV L)) ↦[(shRows L).view.set]{fullShare} f)
            ∗ (oLoc d ↦[oSet (wid L)]{fullShare} outF pv av zv)
            ∗ (∃ f, posV.view.loc (V d (cV L) (jV L)) ↦{fullShare} f)
            ∗ (∃ f, idxV.view.loc (V d (cV L) (jV L)) ↦{fullShare} f)
            ∗ (∃ f, valV.view.loc (V d (cV L) (jV L)) ↦{fullShare} f)
            ∗ semVal (V d (cV L) (jV L), .dma cc0_scratch4.sem) 0
            ∗ semVal (V d (cV L) (jV L), .dma cc0_scratch5.sem) 0
            ∗ semVal (V d (cV L) (jV L), .dma cc0_scoped0.sem) 0
            ∗ semVal (V d (cV L) (jV L), .dma cc0_scoped1.sem) 0
            ∗ semVal (V d (cV L) (jV L), .dma cc0_scoped2.sem) 0
            ∗ ∃ W', ⌜∀ p ∈ W', p ∈ W ∨ p.2 = none⌝ ∗ owes (V d (cV L) (jV L)) O W') : sProp 𝕄) := by
  rw [o_blocks d L ov, sixteen]
  sl_unfold [cc0_body]
  iintro ⟨Hp, Hz, Ha, Hsh, ⟨H0, H1, H2, H3, H4, H5, H6, H7, H8, H9, H10, H11, H12, H13, H14, H15⟩, Hpos, Hidx, Hval, Hs4, Hs5, Hc0, Hc1, Hc2, HO, Hmw⟩
  imod (Transfers.batched_alloc (countersEmb (nD := nD) (sig := sig) (Ix := HIx 1) (Val := Elt F) (Name := ℕ) (U := UU) (Lvl := ℕ)) (V d (cV L) (jV L)) (default : HIx 1) (RefSig.bitCredit S512x128 .f32) 16 (sm := SemLoc.dma (sig := sig) cc0_scratch4.sem) (E := Set.univ)) $$ Hs4 with Hs4
  sl_exec
  ihave H0 := (fill_pt d L 0 zv ov (tile_run.sl.dma1 d L zv fsh) (fill_word L zv fsh)) $$ H0
  ihave H1 := (fill_pt d L 1 zv ov (tile_run.sl.dma1 d L zv fsh) (fill_word L zv fsh)) $$ H1
  ihave H2 := (fill_pt d L 2 zv ov (tile_run.sl.dma1 d L zv fsh) (fill_word L zv fsh)) $$ H2
  ihave H3 := (fill_pt d L 3 zv ov (tile_run.sl.dma1 d L zv fsh) (fill_word L zv fsh)) $$ H3
  ihave H4 := (fill_pt d L 4 zv ov (tile_run.sl.dma1 d L zv fsh) (fill_word L zv fsh)) $$ H4
  ihave H5 := (fill_pt d L 5 zv ov (tile_run.sl.dma1 d L zv fsh) (fill_word L zv fsh)) $$ H5
  ihave H6 := (fill_pt d L 6 zv ov (tile_run.sl.dma1 d L zv fsh) (fill_word L zv fsh)) $$ H6
  ihave H7 := (fill_pt d L 7 zv ov (tile_run.sl.dma1 d L zv fsh) (fill_word L zv fsh)) $$ H7
  ihave H8 := (fill_pt d L 8 zv ov (tile_run.sl.dma1 d L zv fsh) (fill_word L zv fsh)) $$ H8
  ihave H9 := (fill_pt d L 9 zv ov (tile_run.sl.dma1 d L zv fsh) (fill_word L zv fsh)) $$ H9
  ihave H10 := (fill_pt d L 10 zv ov (tile_run.sl.dma1 d L zv fsh) (fill_word L zv fsh)) $$ H10
  ihave H11 := (fill_pt d L 11 zv ov (tile_run.sl.dma1 d L zv fsh) (fill_word L zv fsh)) $$ H11
  ihave H12 := (fill_pt d L 12 zv ov (tile_run.sl.dma1 d L zv fsh) (fill_word L zv fsh)) $$ H12
  ihave H13 := (fill_pt d L 13 zv ov (tile_run.sl.dma1 d L zv fsh) (fill_word L zv fsh)) $$ H13
  ihave H14 := (fill_pt d L 14 zv ov (tile_run.sl.dma1 d L zv fsh) (fill_word L zv fsh)) $$ H14
  ihave H15 := (fill_pt d L 15 zv ov (tile_run.sl.dma1 d L zv fsh) (fill_word L zv fsh)) $$ H15
  ihave Ho := (Entails.of_eq ((o_blocks d L (fillF zv)).trans (sixteen _)).symm) $$ [H0 H1 H2 H3 H4 H5 H6 H7 H8 H9 H10 H11 H12 H13 H14 H15]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  ihave Hidx := (idx_pt d L pv fi _ _ _ _ _ _ _ _ (tile_run.sl.v78 d L pv fp) (tile_run.sl.v88 d L pv fp) (tile_run.sl.v98 d L pv fp) (tile_run.sl.v108 d L pv fp) (tile_run.sl.v118 d L pv fp) (tile_run.sl.v128 d L pv fp) (tile_run.sl.v138 d L pv fp) (tile_run.sl.v148 d L pv fp)
    (fun j => piece_value d L pv fp 0 0 0 _ _ _ (by decide) (by decide) rfl _ _ j)
    (fun j => piece_value d L pv fp 16 0 16 _ _ _ (by decide) (by decide) rfl _ _ j)
    (fun j => piece_value d L pv fp 0 1 32 _ _ _ (by decide) (by decide) rfl _ _ j)
    (fun j => piece_value d L pv fp 16 1 48 _ _ _ (by decide) (by decide) rfl _ _ j)
    (fun j => piece_value d L pv fp 0 2 64 _ _ _ (by decide) (by decide) rfl _ _ j)
    (fun j => piece_value d L pv fp 16 2 80 _ _ _ (by decide) (by decide) rfl _ _ j)
    (fun j => piece_value d L pv fp 0 3 96 _ _ _ (by decide) (by decide) rfl _ _ j)
    (fun j => piece_value d L pv fp 16 3 112 _ _ _ (by decide) (by decide) rfl _ _ j)) $$ Hidx
  have hvs : valV.view.set = Finset.univ := View.set_whole _
  have his : idxV.view.set = Finset.univ := View.set_whole _
  have hr := rows_ok (F := F) hp L cc0_body._proof_12 (idx_in hp L)
  have hsub := rows_sub d hp L _ hr
  ihave ⟨Hn, Hrest⟩ := (pointsTo_split_subset (ℓ := oLoc d) (q := fullShare) (f := fillF zv) hsub).1 $$ Ho
  ihave Hidx2 := (Entails.of_eq (show (idxV.view.loc (V d (cV L) (jV L)) ↦{fullShare} idxBuf pv L : sProp 𝕄)
      = idxV.view.loc (V d (cV L) (jV L)) ↦[idxV.view.set]{fullShare} idxBuf pv L by rw [his])) $$ Hidx
  ihave Hval2 := (Entails.of_eq (show (valV.view.loc (V d (cV L) (jV L)) ↦{fullShare} valV.view.write (Elt F) fv (tile_run.sl.dma0_2 d L av) Finset.univ : sProp 𝕄)
      = valV.view.loc (V d (cV L) (jV L)) ↦[valV.view.set]{fullShare} valV.view.write (Elt F) fv (tile_run.sl.dma0_2 d L av) Finset.univ by rw [hvs])) $$ Hval
  iapply (SparseCore.wp_indirectScatterLocal (defs := defs₀ (F := F)) countersEmb 𝒱₀ (V d (cV L) (jV L)) none (hg := gth) (default : HIx 1)
      valV.view.dmaCredit (by decide) (idx_in hp L) (rowOK_inj hp hr)
      (SparseCore.sum_scatterCredit_eq_srcCredit (V d (cV L) (jV L)) valV oAll gth rfl _ (fun _ => rfl) (fun _ => rfl))) $$ [Hval2 Hn Hidx2 Hs5]
  · isplitl [Hval2]; · iexact Hval2
    isplitl [Hn]; · iexact Hn
    isplitl [Hidx2]; · iexact Hidx2
    iexact Hs5
  iintro Hfl
  sl_exec
  iapply (Transfers.wp_waitLocalO countersEmb 𝒱₀ (V d (cV L) (jV L)) none (default : HIx 1) (rfl : valV.view.dmaCredit = _)) $$ [Hfl HO Hmw]
  · isplitl [Hfl]; · iexact Hfl
    isplitl [HO]; · iexact HO
    iapply (Transfers.MayWaits.elim (SemLoc.dma cc0_scratch5.sem)) $$ Hmw
  iintro ⟨⟨Hn, Hval2, Hidx2⟩, Hs5, HO⟩
  ihave Ho := (out_pt d L hp av zv _ hr _ (val_word L av fv)) $$ [Hn Hrest]
  · isplitl [Hn]; · iexact Hn
    iexact Hrest
  ihave Hidx := (Entails.of_eq (show (idxV.view.loc (V d (cV L) (jV L)) ↦[idxV.view.set]{fullShare} idxBuf pv L : sProp 𝕄)
      = idxV.view.loc (V d (cV L) (jV L)) ↦{fullShare} idxBuf pv L by rw [his])) $$ Hidx2
  ihave Hval := (Entails.of_eq (show (valV.view.loc (V d (cV L) (jV L)) ↦[valV.view.set]{fullShare} valV.view.write (Elt F) fv (tile_run.sl.dma0_2 d L av) Finset.univ : sProp 𝕄)
      = valV.view.loc (V d (cV L) (jV L)) ↦{fullShare} valV.view.write (Elt F) fv (tile_run.sl.dma0_2 d L av) Finset.univ by rw [hvs])) $$ Hval2
  sl_exec
  sl_step
  isplitl [Hp]; · iexact Hp
  isplitl [Hz]; · iexact Hz
  isplitl [Ha]; · iexact Ha
  isplitl [Hsh]; · iexists _; iexact Hsh
  isplitl [Ho]; · iexact Ho
  isplitl [Hpos]; · iexists _; iexact Hpos
  isplitl [Hidx]; · iexists _; iexact Hidx
  isplitl [Hval]; · iexists _; iexact Hval
  isplitl [Hs4]; · iexact Hs4
  isplitl [Hs5]; · iexact Hs5
  isplitl [Hc0]; · iexact Hc0
  isplitl [Hc1]; · iexact Hc1
  isplitl [Hc2]; · iexact Hc2
  iexists _
  isplitr
  swap
  · iexact HO
  ipureintro
  intro p hp
  simp only [Finset.mem_insert] at hp
  rcases hp with rfl | rfl | rfl | rfl | rfl | rfl | rfl | rfl | rfl | rfl | rfl | rfl | rfl | rfl | rfl | rfl | rfl | rfl | rfl | rfl | hp
  all_goals first | exact Or.inl hp | exact Or.inr rfl

end Cert.Proof

end
-- ==== Proof.Handoff.lean ====
/-
  What the SparseCore call hands to its threads and gets back, and one vector subcore's obligation: from its share of
  the operands, with its buffers and semaphores as the launch left them, to its share of the results.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

/-! ## The operands' contents at the call -/

/-- The contents of the call's four arrays, per device: the indices, the new values by row, the cache by row, the output before. -/
structure Ops (F : FTy → Type) where
  p : S32.Idx → BitVec 32
  a : S4096x128.Idx → Elt F .f32
  z : S262144x128.Idx → Elt F .f32
  o : S262144x128.Idx → Elt F .f32

def coordsV (c : Fin (grid0.bound 0)) (s : Fin (grid0.bound 1)) : grid0.Coords := fun a => match a with | ⟨0, _⟩ => c | ⟨1, _⟩ => s

/-- A subcore's share of the operands: a read share of the indices and of the cache's first 512 rows, its rows of the new
    values, its rows of the output at `o`. -/
abbrev tileOwn (C : Ops F) (o : S262144x128.Idx → Elt F .f32) (d : Dev nD) (w : Fin 32) : sProp 𝕄 :=
  iprop((pLoc d ↦{Transfers.shareTok fullShare 32 w} C.p) ∗ (zLoc d ↦[zRows.view.set]{Transfers.shareTok fullShare 32 w} C.z)
    ∗ (aLoc d ↦[aSet w]{fullShare} C.a) ∗ (oLoc d ↦[oSet w]{fullShare} o))

/-- Its rows of its SparseCore's shared memory. -/
abbrev shOwn (d : Dev nD) (c : Fin τ.nSC) (i : Fin 16) : sProp 𝕄 := iprop(∃ f, shLoc d c ↦[sSet i]{fullShare} f)

/-- The SparseCore's grid coordinate and the subcore's, as the launch counts them. -/
abbrev cQ (c : Fin ((K (F := F)).nCore 0)) : Fin (grid0.bound 0) := c
abbrev iQ (i : Fin ((K (F := F)).nSub 0)) : Fin (grid0.bound 1) := i

variable (C : Dev nD → Ops F)

def P : (K (F := F)).Pay (nD := nD) (Val := Elt F) (Name := ℕ) (U := UU) where
  st := fun q d c => match q with | 0 => bigSep Finset.univ fun i : Fin 16 => tileOwn (C d) (C d).o d (wid (coordsV (cQ (F := F) c) i))
  dn := fun q d c => match q with | 0 => bigSep Finset.univ fun i : Fin 16 => tileOwn (C d) (outF (C d).p (C d).a (C d).z) d (wid (coordsV (cQ (F := F) c) i))
  go := fun q d c i => match q with
    | 0 => iprop(tileOwn (C d) (C d).o d (wid (coordsV (cQ (F := F) c) (iQ (F := F) i))) ∗ shOwn d (cV (coordsV (cQ (F := F) c) (iQ (F := F) i))) (iQ (F := F) i))
  td := fun q d c i => match q with
    | 0 => iprop(tileOwn (C d) (outF (C d).p (C d).a (C d).z) d (wid (coordsV (cQ (F := F) c) (iQ (F := F) i))) ∗ shOwn d (cV (coordsV (cQ (F := F) c) (iQ (F := F) i))) (iQ (F := F) i))
  x := fun _ _ => iprop(emp)

instance P_storable : (P (F := F) C).IsStorable where
  st q d c := match q with
    | 0 => (inferInstance : BI.Storable (upEmb : UEmb _ 𝕄) (bigSep Finset.univ fun i : Fin 16 => tileOwn (C d) (C d).o d (wid (coordsV (cQ (F := F) c) i))))
  dn q d c := match q with
    | 0 => (inferInstance : BI.Storable (upEmb : UEmb _ 𝕄) (bigSep Finset.univ fun i : Fin 16 => tileOwn (C d) (outF (C d).p (C d).a (C d).z) d (wid (coordsV (cQ (F := F) c) i))))
  go q d c i := match q with
    | 0 => (inferInstance : BI.Storable (upEmb : UEmb _ 𝕄) iprop(tileOwn (C d) (C d).o d (wid (coordsV (cQ (F := F) c) (iQ (F := F) i))) ∗ shOwn d (cV (coordsV (cQ (F := F) c) (iQ (F := F) i))) (iQ (F := F) i)))
  td q d c i := match q with
    | 0 => (inferInstance : BI.Storable (upEmb : UEmb _ 𝕄) iprop(tileOwn (C d) (outF (C d).p (C d).a (C d).z) d (wid (coordsV (cQ (F := F) c) (iQ (F := F) i))) ∗ shOwn d (cV (coordsV (cQ (F := F) c) (iQ (F := F) i))) (iQ (F := F) i)))

/-! ## A subcore's own buffers and semaphores -/

section Own

variable (d : Dev nD) (L : grid0.Coords)

abbrev cell (d : Dev nD) (L : grid0.Coords) (s : DmaSem sig) : GSem nD τ sig := (V d (cV L) (jV L), .dma s)

theorem cell_mem (s : DmaSem sig) (h : (SemLoc.dma s : SemLoc sig).isScoped .scVector = true) : cell d L s ∈ ownCells (V d (cV L) (jV L)) :=
  mem_ownCells.mpr ⟨rfl, h⟩

theorem cell_ne (s s' : DmaSem sig) (h : s ≠ s') : cell d L s ≠ cell d L s' := fun e => h (by
  have := congrArg Prod.snd e
  exact SemLoc.dma.inj this)

/-- The semaphores of the kernel, and the rest of the subcore's. -/
theorem ownSems0_V :
    (ownSems0 (V d (cV L) (jV L)) : sProp 𝕄)
      = iprop(semVal (cell d L cc0_scratch4.sem) 0 ∗ semVal (cell d L cc0_scratch5.sem) 0 ∗ semVal (cell d L cc0_scoped0.sem) 0
          ∗ semVal (cell d L cc0_scoped1.sem) 0 ∗ semVal (cell d L cc0_scoped2.sem) 0
          ∗ bigSep ((((((ownCells (V d (cV L) (jV L))).erase (cell d L cc0_scratch4.sem)).erase (cell d L cc0_scratch5.sem)).erase (cell d L cc0_scoped0.sem)).erase
              (cell d L cc0_scoped1.sem)).erase (cell d L cc0_scoped2.sem)) fun g => semVal g 0) := by
  unfold SparseCore.Cfg.ownSems0
  rw [SparseCore.bigSep_erase' (cell_mem d L cc0_scratch4.sem (by decide)),
    SparseCore.bigSep_erase' (Finset.mem_erase.mpr ⟨cell_ne d L _ _ (by decide), cell_mem d L cc0_scratch5.sem (by decide)⟩),
    SparseCore.bigSep_erase' (Finset.mem_erase.mpr ⟨cell_ne d L _ _ (by decide), Finset.mem_erase.mpr ⟨cell_ne d L _ _ (by decide), cell_mem d L cc0_scoped0.sem (by decide)⟩⟩),
    SparseCore.bigSep_erase' (Finset.mem_erase.mpr ⟨cell_ne d L _ _ (by decide), Finset.mem_erase.mpr ⟨cell_ne d L _ _ (by decide),
      Finset.mem_erase.mpr ⟨cell_ne d L _ _ (by decide), cell_mem d L cc0_scoped1.sem (by decide)⟩⟩⟩),
    SparseCore.bigSep_erase' (Finset.mem_erase.mpr ⟨cell_ne d L _ _ (by decide), Finset.mem_erase.mpr ⟨cell_ne d L _ _ (by decide),
      Finset.mem_erase.mpr ⟨cell_ne d L _ _ (by decide), Finset.mem_erase.mpr ⟨cell_ne d L _ _ (by decide), cell_mem d L cc0_scoped2.sem (by decide)⟩⟩⟩⟩)]

abbrev ref (L : grid0.Coords) (b : Ref sig .scVector) : DevRef τ sig := (Proc.scVector (cV L) (jV L)).devRef b

theorem ref_ne (b b' : Ref sig .scVector) (h : b ≠ b') : ref L b ≠ ref L b' := fun e => h (Proc.devRef_injective _ e)

/-- The buffers of the kernel that are the subcore's own, and the rest of them. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase (ref L cc0_scratch0)).erase (ref L cc0_scratch1)).erase (ref L cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ref L cc0_scratch0) rfl)).trans ?_
  rw [SparseCore.bigSep_erase' (Finset.mem_erase.mpr ⟨ref_ne L _ _ (by decide), SparseCore.Cfg.mem_ownRefs_of_owner (p := Proc.scVector (cV L) (jV L)) (b := ref L cc0_scratch1) rfl⟩),
    SparseCore.bigSep_erase' (Finset.mem_erase.mpr ⟨ref_ne L _ _ (by decide), Finset.mem_erase.mpr ⟨ref_ne L _ _ (by decide),
      SparseCore.Cfg.mem_ownRefs_of_owner (p := Proc.scVector (cV L) (jV L)) (b := ref L cc0_scratch2) rfl⟩⟩)]

end Own

/-! ## The obligation -/

theorem defs₀_vector (c : Fin τ.nSC) (s : Fin τ.nSub) :
    defs₀ (F := F) (.scVector c s) 0 ()
      = SparseCore.onTile hcore0 hsub0 (fun c s => cc0_body (coordsV c s)
          pV (Memref.isWhole_whole _) aV (Memref.isWhole_whole _) zV (Memref.isWhole_whole _) oV (Memref.isWhole_whole _)
          posV (Memref.isWhole_whole _) idxV (Memref.isWhole_whole _) valV (Memref.isWhole_whole _) shV (Memref.isWhole_whole _)
          cc0_scratch4 cc0_scratch5 cc0_scoped0 cc0_scoped1 cc0_scoped2) ⟨⟩ c s := rfl

theorem tile_body [∀ e, Nonempty (Elt F e)] (hF : (K (F := F)).Facts) (c : Ops F) (hp : PosOK c.p) (d : Dev nD) (L : grid0.Coords)
    (O : CellTallies nD τ sig (HIx 1)) (W : Waits sig (HIx 1)) (hO : ∀ g, O g none = 0) :
    iprop(levAts (K (F := F)).L (K (F := F)).lev ∗ emp ∗ (tileOwn c c.o d (wid L) ∗ shOwn d (cV L) (L 1))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0_body L pV (Memref.isWhole_whole _) aV (Memref.isWhole_whole _) zV (Memref.isWhole_whole _) oV (Memref.isWhole_whole _)
            posV (Memref.isWhole_whole _) idxV (Memref.isWhole_whole _) valV (Memref.isWhole_whole _) shV (Memref.isWhole_whole _)
            cc0_scratch4 cc0_scratch5 cc0_scoped0 cc0_scoped1 cc0_scoped2)
          fun _ => iprop((tileOwn c (outF c.p c.a c.z) d (wid L) ∗ shOwn d (cV L) (L 1))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V]
  iintro ⟨#Hlv, -, ⟨⟨Hp, Hz, Ha, Ho⟩, ⟨%fsh, Hsh⟩⟩, ⟨⟨%fp, Hpos⟩, ⟨%fi, Hidx⟩, ⟨%fv, Hval⟩, Hbufs⟩, ⟨Hs4, Hs5, Hc0, Hc1, Hc2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ha := (Entails.of_eq (show (aLoc d ↦[aSet (wid L)]{fullShare} c.a : sProp 𝕄)
      = (aRows L).view.loc (V d (cV L) (jV L)) ↦[(aRows L).view.set]{fullShare} c.a by rw [aSet_eq])) $$ Ha
  ihave Hsh := (Entails.of_eq (show (shLoc d (cV L) ↦[sSet (L 1)]{fullShare} fsh : sProp 𝕄)
      = (shRows L).view.loc (V d (cV L) (jV L)) ↦[(shRows L).view.set]{fullShare} fsh by rw [sSet_eq]; rfl)) $$ Hsh
  iapply (wp_wand_r frame _ _)
  isplitl [Hp Hz Ha Ho Hsh Hpos Hidx Hval Hs4 Hs5 Hc0 Hc1 Hc2 HO Hmw]
  · iapply (tile_run d L (Transfers.shareTok fullShare 32 (wid L)) c.p hp c.a c.z c.o fp fi fv fsh O W trivial)
    isplitl [Hp]; · iexact Hp
    isplitl [Hz]; · iexact Hz
    isplitl [Ha]; · iexact Ha
    isplitl [Hsh]; · iexact Hsh
    isplitl [Ho]; · iexact Ho
    isplitl [Hpos]; · iexact Hpos
    isplitl [Hidx]; · iexact Hidx
    isplitl [Hval]; · iexact Hval
    isplitl [Hs4]; · iexact Hs4
    isplitl [Hs5]; · iexact Hs5
    isplitl [Hc0]; · iexact Hc0
    isplitl [Hc1]; · iexact Hc1
    isplitl [Hc2]; · iexact Hc2
    isplitl [HO]; · iexact HO
    iexact Hmw
  · iintro %_ ⟨Hp, Hz, Ha, ⟨%gsh, Hsh⟩, Ho, Hpos, Hidx, Hval, Hs4, Hs5, Hc0, Hc1, Hc2, HO⟩
    ihave Ha := (Entails.of_eq (show (aLoc d ↦[aSet (wid L)]{fullShare} c.a : sProp 𝕄)
        = (aRows L).view.loc (V d (cV L) (jV L)) ↦[(aRows L).view.set]{fullShare} c.a by rw [aSet_eq]).symm) $$ Ha
    ihave Hsh := (Entails.of_eq (show (shLoc d (cV L) ↦[sSet (L 1)]{fullShare} gsh : sProp 𝕄)
        = (shRows L).view.loc (V d (cV L) (jV L)) ↦[(shRows L).view.set]{fullShare} gsh by rw [sSet_eq]; rfl).symm) $$ Hsh
    isplitl [Hp Hz Ha Ho Hsh]
    · isplitr [Hsh]
      · isplitl [Hp]; · iexact Hp
        isplitl [Hz]; · iexact Hz
        isplitl [Ha]; · iexact Ha
        iexact Ho
      · iexists gsh; iexact Hsh
    isplitl [Hpos Hidx Hval Hbufs]
    · isplitl [Hpos]; · iexact Hpos
      isplitl [Hidx]; · iexact Hidx
      isplitl [Hval]; · iexact Hval
      iexact Hbufs
    isplitl [Hs4 Hs5 Hc0 Hc1 Hc2 Hsems]
    · isplitl [Hs4]; · iexact Hs4
      isplitl [Hs5]; · iexact Hs5
      isplitl [Hc0]; · iexact Hc0
      isplitl [Hc1]; · iexact Hc1
      isplitl [Hc2]; · iexact Hc2
      iexact Hsems
    iexact HO

theorem obl_post {A B G : sProp 𝕄} {O : CellTallies nD τ sig (HIx 1)} {W : Waits sig (HIx 1)} {thr : Thread nD τ} {q : Fin 1} :
    iprop(A ∗ B ∗ G ∗ ∃ W', ⌜∀ p ∈ W', p ∈ W ∨ p.2 = none⌝ ∗ owes thr O W')
      ⊢ iprop(A ∗ B ∗ G ∗ ∃ W', ⌜∀ p ∈ W', p ∈ W ∨ p.2 = none ∨ p.2 = some q⌝ ∗ owes thr O W') := by
  iintro ⟨HA, HB, HG, %W', %hW, HO⟩
  isplitl [HA]; · iexact HA
  isplitl [HB]; · iexact HB
  isplitl [HG]; · iexact HG
  iexists W'; isplitr; · ipureintro; exact fun p h => (hW p h).imp_right Or.inl
  iexact HO

set_option maxRecDepth 16384 in
theorem tileObl [∀ e, Nonempty (Elt F e)] (hF : (K (F := F)).Facts) (hp : ∀ d, PosOK (C d).p) :
    (K (F := F)).TileObl (D (F := F)) 𝒱 (P C) v₀ 0 := by
  intro d c i O W hO _ _
  simp only [show (P (F := F) C).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs (defs₀ (F := F))) 𝒱₀ _ Set.univ none _ _)
  rw [defs₀_vector]
  simp only [SparseCore.onTile, hci, and_self, ↓reduceDIte]
  exact (tile_body hF (C d) (hp d) d (coordsV ⟨_, hci.1⟩ ⟨_, hci.2⟩) O W hO).trans (wp_mono frame _ _ fun _ => obl_post)

/-! ## A SparseCore's share -/

theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

theorem sh_row (d : Dev nD) (c : Fin τ.nSC) (i : Fin 16) (f : Buf (Elt F) (shLoc d c)) : (shLoc d c ↦[sSet i]{fullShare} f : sProp 𝕄) ⊢ shOwn d c i := by
  iintro H; iexists f; iexact H

/-- The shared memory, in its subcores' rows. -/
theorem sh_split (d : Dev nD) (c : Fin τ.nSC) :
    iprop(∃ f, shLoc d c ↦{fullShare} f) ⊢ (bigSep Finset.univ fun i : Fin 16 => shOwn d c i : sProp 𝕄) := by
  iintro ⟨%f, H⟩
  iapply (show (shLoc d c ↦{fullShare} f : sProp 𝕄) ⊢ bigSep Finset.univ fun i : Fin 16 => shOwn d c i from
    (Entails.of_eq (show (shLoc d c ↦{fullShare} f : sProp 𝕄) = bigSep Finset.univ fun i : Fin 16 => shLoc d c ↦[sSet i]{fullShare} f by
      rw [← pointsTo_biUnion _ _ fun i _ j _ h => sSet_disjoint i j h, ← sSet_cover])).trans
      (BI.bigSep_mono fun i _ => sh_row d c i f))
  iexact H

theorem sh_join (d : Dev nD) (c : Fin τ.nSC) :
    (bigSep Finset.univ fun i : Fin 16 => shOwn d c i : sProp 𝕄) ⊢ iprop(∃ f, shLoc d c ↦{fullShare} f) := by
  refine (bigSep_exists_pi Finset.univ _).trans ?_
  iintro ⟨%fs, H⟩
  ihave H := (pointsTo_biUnion_join Finset.univ (sSet) fs (fs 0) fun i _ j _ h => sSet_disjoint i j h) $$ H
  icases H with ⟨%g, -, H⟩
  iexists g
  iapply (Entails.of_eq (show (shLoc d c ↦{fullShare} g : sProp 𝕄) = shLoc d c ↦[Finset.univ.biUnion sSet]{fullShare} g by rw [← sSet_cover]).symm)
  iexact H

theorem vecSplit : (K (F := F)).VecSplit (P C) 0 := by
  intro d c
  rw [ownBufs_S]
  iintro ⟨Hst, Hsh, Hrest⟩
  ihave Hst := (show (P (F := F) C).st 0 d c ⊢ bigSep Finset.univ fun i : Fin 16 => tileOwn (C d) (C d).o d (wid (coordsV (cQ (F := F) c) i)) from .rfl) $$ Hst
  imodintro
  ihave Hsh := sh_split d _ $$ Hsh
  isplitl [Hst Hsh]
  · iapply (show (bigSep Finset.univ fun i : Fin 16 => iprop(tileOwn (C d) (C d).o d (wid (coordsV (cQ (F := F) c) i)) ∗ shOwn d (cV (coordsV (cQ (F := F) c) i)) i))
        ⊢ bigSep Finset.univ fun i : Fin ((K (F := F)).nSub 0) => (P (F := F) C).go 0 d c i from .rfl)
    iapply (Entails.of_eq (bigSep_sep' Finset.univ (fun i : Fin 16 => tileOwn (C d) (C d).o d (wid (coordsV (cQ (F := F) c) i)))
      (fun i : Fin 16 => shOwn d (cV (coordsV (cQ (F := F) c) i)) i)).symm)
    isplitl [Hst]; · iexact Hst
    iexact Hsh
  · iintro H
    ihave H := (show (bigSep Finset.univ fun i : Fin ((K (F := F)).nSub 0) => (P (F := F) C).td 0 d c i) ⊢ bigSep Finset.univ fun i : Fin 16 =>
      iprop(tileOwn (C d) (outF (C d).p (C d).a (C d).z) d (wid (coordsV (cQ (F := F) c) i)) ∗ shOwn d (cV (coordsV (cQ (F := F) c) i)) i) from .rfl) $$ H
    ihave H := (Entails.of_eq (bigSep_sep' Finset.univ (fun i : Fin 16 => tileOwn (C d) (outF (C d).p (C d).a (C d).z) d (wid (coordsV (cQ (F := F) c) i)))
      (fun i : Fin 16 => shOwn d (cV (coordsV (cQ (F := F) c) i)) i))) $$ H
    icases H with ⟨Hdn, Hsh⟩
    ihave Hsh := (show (bigSep Finset.univ fun i : Fin 16 => shOwn d (cV (coordsV (cQ (F := F) c) i)) i : sProp 𝕄)
      ⊢ iprop(∃ f, shLoc d ((K (F := F)).core 0 c) ↦{fullShare} f) from sh_join d ((K (F := F)).core 0 c)) $$ Hsh
    isplitl [Hdn]
    · iapply (show (bigSep Finset.univ fun i : Fin 16 => tileOwn (C d) (outF (C d).p (C d).a (C d).z) d (wid (coordsV (cQ (F := F) c) i))) ⊢ (P (F := F) C).dn 0 d c from .rfl)
      iexact Hdn
    isplitl [Hsh]; · iexact Hsh
    iexact Hrest

end Cert.Proof

end
-- ==== Proof.Deal.lean ====
/-
  The SparseCore call's four arrays dealt to the 32 subcores, and gathered again.
-/
module

public import proofs.«01_k».proof.Proof.Handoff

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

/-- The subcore counted by SparseCore and place, and its number. -/
def tileEquiv : Fin 2 × Fin 16 ≃ Fin 32 := (Equiv.prodComm _ _).trans finProdFinEquiv

theorem tileEquiv_eq (c : Fin 2) (i : Fin 16) : tileEquiv (c, i) = wid (coordsV c i) := Fin.ext (by
  show c.val + 2 * i.val = 2 * i.val + c.val; omega)

/-- Over the subcores in order of number, or over the SparseCores and the subcores of each. -/
theorem tiles_eq (Φ : Fin 32 → sProp 𝕄) :
    (bigSep Finset.univ Φ : sProp 𝕄) = bigSep Finset.univ fun c : Fin 2 => bigSep Finset.univ fun i : Fin 16 => Φ (wid (coordsV c i)) := by
  rw [bigSep_univ_equiv tileEquiv Φ, bigSep_univ_prod]
  exact bigSep_congr fun c _ => bigSep_congr fun i _ => by rw [tileEquiv_eq]

/-- The call's four arrays whole, the output at `o`. -/
abbrev wholeRes (C : Ops F) (o : S262144x128.Idx → Elt F .f32) (d : Dev nD) : sProp 𝕄 :=
  iprop((pLoc d ↦{fullShare} C.p) ∗ (zLoc d ↦{fullShare} C.z) ∗ (aLoc d ↦{fullShare} C.a) ∗ (oLoc d ↦{fullShare} o))

/-- What no subcore gets: the last read share of the indices and of the cache's first 512 rows, and the cache's other rows. -/
abbrev restRes (C : Ops F) (d : Dev nD) : sProp 𝕄 :=
  iprop((pLoc d ↦{Transfers.shareDrop fullShare 32} C.p) ∗ (zLoc d ↦[zRows.view.set]{Transfers.shareDrop fullShare 32} C.z)
    ∗ (zLoc d ↦[Finset.univ \ zRows.view.set]{fullShare} C.z))

theorem tiles_flat (C : Ops F) (o : S262144x128.Idx → Elt F .f32) (d : Dev nD) :
    (bigSep Finset.univ fun w : Fin 32 => tileOwn C o d w : sProp 𝕄)
      = iprop((bigSep Finset.univ fun w : Fin 32 => pLoc d ↦{Transfers.shareTok fullShare 32 w} C.p)
        ∗ (bigSep Finset.univ fun w : Fin 32 => zLoc d ↦[zRows.view.set]{Transfers.shareTok fullShare 32 w} C.z)
        ∗ (bigSep Finset.univ fun w : Fin 32 => aLoc d ↦[aSet w]{fullShare} C.a) ∗ bigSep Finset.univ fun w : Fin 32 => oLoc d ↦[oSet w]{fullShare} o) := by
  rw [← bigSep_sep', ← bigSep_sep', ← bigSep_sep']

theorem a_tiles (d : Dev nD) (a : S4096x128.Idx → Elt F .f32) :
    (aLoc d ↦{fullShare} a : sProp 𝕄) = bigSep Finset.univ fun w : Fin 32 => aLoc d ↦[aSet w]{fullShare} a := by
  rw [← pointsTo_biUnion (ℓ := aLoc d) Finset.univ aSet fun w _ w' _ h => aSet_disjoint w w' h]
  rw [← aSet_cover]

theorem o_tiles (d : Dev nD) (o : S262144x128.Idx → Elt F .f32) :
    (oLoc d ↦{fullShare} o : sProp 𝕄) = bigSep Finset.univ fun w : Fin 32 => oLoc d ↦[oSet w]{fullShare} o := by
  rw [← pointsTo_biUnion (ℓ := oLoc d) Finset.univ oSet fun w _ w' _ h => oSet_disjoint w w' h]
  rw [← oSet_cover]

theorem deal (C : Ops F) (o : S262144x128.Idx → Elt F .f32) (d : Dev nD) :
    (wholeRes C o d : sProp 𝕄) ⊢ iprop(restRes C d ∗ bigSep Finset.univ fun w : Fin 32 => tileOwn C o d w) := by
  rw [tiles_flat, ← a_tiles, ← o_tiles]
  iintro ⟨Hp, Hz, Ha, Ho⟩
  ihave Hp := (Transfers.pointsTo_toks_split (ℓ := pLoc d) (f := C.p) fullShare 32) $$ Hp
  icases Hp with ⟨Hp0, Hp⟩
  ihave Hz := (pointsTo_split_subset (ℓ := zLoc d) (f := C.z) (q := fullShare) (Finset.subset_univ zRows.view.set)).1 $$ Hz
  icases Hz with ⟨Hz, Hzr⟩
  ihave Hz := (Transfers.pointsTo_toks_split (ℓ := zLoc d) (f := C.z) fullShare 32) $$ Hz
  icases Hz with ⟨Hz0, Hz⟩
  isplitl [Hp0 Hz0 Hzr]
  · isplitl [Hp0]; · iexact Hp0
    isplitl [Hz0]; · iexact Hz0
    iexact Hzr
  isplitl [Hp]; · iexact Hp
  isplitl [Hz]; · iexact Hz
  isplitl [Ha]; · iexact Ha
  iexact Ho

theorem gather (C : Ops F) (o : S262144x128.Idx → Elt F .f32) (d : Dev nD) :
    (iprop(restRes C d ∗ bigSep Finset.univ fun w : Fin 32 => tileOwn C o d w) : sProp 𝕄) ⊢ wholeRes C o d := by
  rw [tiles_flat, ← a_tiles, ← o_tiles]
  iintro ⟨⟨Hp0, Hz0, Hzr⟩, Hp, Hz, Ha, Ho⟩
  ihave Hp := (Transfers.pointsTo_toks_join (ℓ := pLoc d) (f := C.p) fullShare 32) $$ [Hp0 Hp]
  · isplitl [Hp0]; · iexact Hp0
    iexact Hp
  ihave Hz := (Transfers.pointsTo_toks_join (ℓ := zLoc d) (f := C.z) fullShare 32) $$ [Hz0 Hz]
  · isplitl [Hz0]; · iexact Hz0
    iexact Hz
  ihave Hz := (pointsTo_split_subset (ℓ := zLoc d) (f := C.z) (q := fullShare) (Finset.subset_univ zRows.view.set)).2 $$ [Hz Hzr]
  · isplitl [Hz]; · iexact Hz
    iexact Hzr
  isplitl [Hp]; · iexact Hp
  isplitl [Hz]; · iexact Hz
  isplitl [Ha]; · iexact Ha
  iexact Ho

variable (C : Dev nD → Ops F)

theorem st_eq (d : Dev nD) : (bigSep Finset.univ fun c : Fin ((K (F := F)).nCore 0) => (P C).st 0 d c)
    = (bigSep Finset.univ fun w : Fin 32 => tileOwn (C d) (C d).o d w : sProp 𝕄) := (tiles_eq _).symm
theorem dn_eq (d : Dev nD) : (bigSep Finset.univ fun c : Fin ((K (F := F)).nCore 0) => (P C).dn 0 d c)
    = (bigSep Finset.univ fun w : Fin 32 => tileOwn (C d) (outF (C d).p (C d).a (C d).z) d w : sProp 𝕄) := (tiles_eq _).symm

end Cert.Proof

end
-- ==== Proof.TcVal.lean ====
/-
  The TensorCore kernel's block: what the loop has written before each trip, and that one trip's store carries it on.
-/
module

public import proofs.«01_k».proof.Proof.Rows

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

/-! ## The trip's offsets -/

theorem trips_eq : k1_t1_loop.trips = 256 := by decide +kernel

theorem off1_eq (k : Fin k1_t1_loop.trips) : k1_off1 k = ![k.val % 32] := by
  revert k; decide +kernel

theorem off2_eq (k : Fin k1_t1_loop.trips) : k1_off2 k = ![0, k.val / 32, k.val % 32, 0] := by
  revert k; decide +kernel

theorem off3_eq (k : Fin k1_t1_loop.trips) (v : BitVec 32) : k1_off3 k v = ![0, k.val / 32, v.toNat, 0] := by
  have h : k1_off3 k v = ![0, k1_off2 k 1, v.toNat, 0] := rfl
  rw [h, off2_eq]; rfl

theorem chk_ok (k : Fin k1_t1_loop.trips) (v : BitVec 32) (h : v.toNat < 2048) : k1_chk1 k v := by
  have hk : k.val < 256 := trips_eq ▸ k.isLt
  unfold k1_chk1
  rw [off3_eq]
  intro a
  match a with
  | ⟨0, _⟩ => show (0 : ℕ) + 1 ≤ 1; omega
  | ⟨1, _⟩ => show k.val / 32 + 1 ≤ 8; omega
  | ⟨2, _⟩ => show v.toNat + 1 ≤ 2048; omega
  | ⟨3, _⟩ => show (0 : ℕ) + 128 ≤ 128; omega

/-! ## The block -/

/-- The block of new values' element `(0, h, r, j)`. -/
def ixB (h : Fin 8) (r : Fin 32) (j : Fin 128) : S1x8x32x128.Idx := fun a => match a with
  | ⟨0, _⟩ => (0 : Fin 1) | ⟨1, _⟩ => h | ⟨2, _⟩ => r | ⟨3, _⟩ => j

/-- The output block before trip `k`: the row of head `h` at an index `p r` of a trip `32 h + r` before `k` holds new row `r`;
    every other row is zero. -/
def blkF (p : S32.Idx → BitVec 32) (v : S1x8x32x128.Idx → Elt F .f32) (k : ℕ) (x : S1x8x2048x128.Idx) : Elt F .f32 :=
  if h : ∃ r : Fin 32, (p (ixP r)).toNat = (x 2).val ∧ 32 * (x 1).val + r.val < k then v (ixB (x 1) h.choose (x 3))
  else Scalar.ofBits .f32 0x00000000#32

theorem blkF_hit {p : S32.Idx → BitVec 32} (hp : PosOK p) (v : S1x8x32x128.Idx → Elt F .f32) (k : ℕ) (x : S1x8x2048x128.Idx) (r : Fin 32)
    (h : (p (ixP r)).toNat = (x 2).val) (hk : 32 * (x 1).val + r.val < k) : blkF p v k x = v (ixB (x 1) r (x 3)) := by
  have hh : ∃ r : Fin 32, (p (ixP r)).toNat = (x 2).val ∧ 32 * (x 1).val + r.val < k := ⟨r, h, hk⟩
  unfold blkF
  rw [dif_pos hh, hp.2 hh.choose r (hh.choose_spec.1.trans h.symm)]

theorem blkF_miss {p : S32.Idx → BitVec 32} (v : S1x8x32x128.Idx → Elt F .f32) (k : ℕ) (x : S1x8x2048x128.Idx)
    (h : ∀ r : Fin 32, (p (ixP r)).toNat = (x 2).val → ¬ 32 * (x 1).val + r.val < k) : blkF p v k x = Scalar.ofBits .f32 0x00000000#32 := by
  unfold blkF; rw [dif_neg]; rintro ⟨r, h1, h2⟩; exact h r h1 h2

theorem blkF_zero (p : S32.Idx → BitVec 32) (v : S1x8x32x128.Idx → Elt F .f32) : blkF p v 0 = fun _ => Scalar.ofBits .f32 0x00000000#32 :=
  funext fun x => blkF_miss v 0 x fun _ _ h => absurd h (Nat.not_lt_zero _)

/-- An element the trip's store does not write. -/
theorem blkF_succ_of_ne {p : S32.Idx → BitVec 32} (hp : PosOK p) (v : S1x8x32x128.Idx → Elt F .f32) (k : ℕ) (x : S1x8x2048x128.Idx) (r : Fin 32)
    (hr : r.val = k % 32) (h : ¬ ((x 1).val = k / 32 ∧ (x 2).val = (p (ixP r)).toNat)) : blkF p v (k + 1) x = blkF p v k x := by
  by_cases hh : ∃ s : Fin 32, (p (ixP s)).toNat = (x 2).val
  · obtain ⟨s, hs⟩ := hh
    have hiff : 32 * (x 1).val + s.val < k + 1 ↔ 32 * (x 1).val + s.val < k := by
      refine ⟨fun hlt => ?_, fun hlt => by omega⟩
      by_contra hge
      have he : 32 * (x 1).val + s.val = k := by omega
      have := s.isLt
      have h1 : (x 1).val = k / 32 := by omega
      have h2 : s = r := Fin.ext (by omega)
      exact h ⟨h1, by rw [← h2]; exact hs.symm⟩
    by_cases hk : 32 * (x 1).val + s.val < k
    · rw [blkF_hit hp v k x s hs hk, blkF_hit hp v (k + 1) x s hs (hiff.mpr hk)]
    · have hm : ∀ t : Fin 32, (p (ixP t)).toNat = (x 2).val → t = s := fun t ht => hp.2 t s (ht.trans hs.symm)
      rw [blkF_miss v k x fun t ht => by rw [hm t ht]; exact hk, blkF_miss v (k + 1) x fun t ht => by rw [hm t ht, hiff]; exact hk]
  · rw [blkF_miss v k x fun t ht => absurd ⟨t, ht⟩ hh, blkF_miss v (k + 1) x fun t ht => absurd ⟨t, ht⟩ hh]

/-- An element it writes. -/
theorem blkF_succ_of_eq {p : S32.Idx → BitVec 32} (hp : PosOK p) (v : S1x8x32x128.Idx → Elt F .f32) (k : ℕ) (x : S1x8x2048x128.Idx) (r : Fin 32)
    (hr : r.val = k % 32) (h1 : (x 1).val = k / 32) (h2 : (x 2).val = (p (ixP r)).toNat) : blkF p v (k + 1) x = v (ixB (x 1) r (x 3)) :=
  blkF_hit hp v (k + 1) x r h2.symm (by omega)

end Cert.Proof

end
-- ==== Proof.TcBody.lean ====
/-
  One grid point of the TensorCore kernel, run: the output's staging buffer is cleared, then each trip stores one row of
  new values at its index.
-/
module

public import Idealize.ShloMosaic.Lib.WritesUnit
public import Idealize.ShloMosaic.Lib.VecWindow
public import Idealize.ShloMosaic.Lib.Pipeline.Value
public import proofs.«01_k».proof.Proof.TcVal

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

/-- The state before trip `k`: the indices and the new values as they were, the output's buffer reading `blkF … k`. -/
def tcInv (d : Dev nD) (M2 : Memref sig .tc .smem S32 .i32) (M3 : Memref sig .tc .vmem S1x8x32x128 .f32)
    (M4 : Memref sig .tc .vmem S1x8x2048x128 .f32) (f2 : Buf (Elt F) (M2.view.loc (T (τ := τ) d))) (f3 : Buf (Elt F) (M3.view.loc (T (τ := τ) d))) (k : ℕ) : sProp 𝕄 :=
  iprop((M2.view.loc (T (τ := τ) d) ↦[M2.view.set]{fullShare} f2) ∗ (M3.view.loc (T (τ := τ) d) ↦[M3.view.set]{fullShare} f3)
    ∗ ∃ f, (M4.view.loc (T (τ := τ) d) ↦[M4.view.set]{fullShare} f)
      ∗ ⌜M4.view.read (Elt F) f = blkF (M2.view.read (Elt F) f2) (M3.view.read (Elt F) f3) k⌝)

/-- The row of new values a trip stores. -/
def rowOf (k : Fin k1_t1_loop.trips) : Fin 32 := ⟨k.val % 32, Nat.mod_lt _ (by decide)⟩

/-- The word a trip reads. -/
theorem word_read {sp : Space} (v : View sig .tc sp S32 .i32) (f : v.ty.Contents (Elt F)) (k : Fin k1_t1_loop.trips) :
    v.readAt (Elt F) (Rect.unit (s := S32) (k1_off1 k) S1.size (k1_off1_inb k)).toLoadRect f (Shape.Idx.first (numel1_S1.symm ▸ Nat.one_pos))
      = v.read (Elt F) f (ixP (rowOf k)) := by
  rw [View.readAt_apply]
  congr 1
  funext a
  match a with
  | ⟨0, _⟩ =>
    apply Fin.ext
    show k1_off1 k 0 + 1 * 0 = k.val % 32
    rw [off1_eq]; rfl

theorem pay2_eq (x : Vec F S1x1x1x128 .f32) : k1_pay2 x = x := by
  show shapeCast S1x1x1x128 (shapeCast S1x128 x _) _ = x
  rw [shapeCast_shapeCast]

/-- The position in a row of the block at lane `j`. -/
def ixR (j : Fin 128) : S1x1x1x128.Idx := fun a => match a with
  | ⟨0, _⟩ => (0 : Fin 1) | ⟨1, _⟩ => (0 : Fin 1) | ⟨2, _⟩ => (0 : Fin 1) | ⟨3, _⟩ => j

/-- What a trip's store makes of the block. -/
theorem trip_value {sp sp' : Space} (v4 : View sig .tc sp S1x8x2048x128 .f32) (v3 : View sig .tc sp' S1x8x32x128 .f32)
    (f : v4.ty.Contents (Elt F)) (f3 : v3.ty.Contents (Elt F)) {p : S32.Idx → BitVec 32} (hp : PosOK p)
    (k : Fin k1_t1_loop.trips) (w : BitVec 32) (hw : w = p (ixP (rowOf k))) (inb : ∀ a, k1_off3 k w a + S1x1x1x128.size a ≤ S1x8x2048x128.size a)
    (hf : v4.read (Elt F) f = blkF p (v3.read (Elt F) f3) k.val) :
    v4.read (Elt F) (v4.writes (Elt F) f [⟨Rect.unit (s := S1x8x2048x128) (k1_off3 k w) S1x1x1x128.size inb,
        k1_pay2 (v3.readAt (Elt F) (Rect.unit (s := S1x8x32x128) (k1_off2 k) S1x1x1x128.size (k1_off2_inb k)).toLoadRect f3)⟩])
      = blkF p (v3.read (Elt F) f3) (k.val + 1) := by
  funext y
  have y0 : (y 0).val = 0 := by have : (y 0).val < 1 := (y 0).isLt; omega
  by_cases h : (y 1).val = k.val / 32 ∧ (y 2).val = (p (ixP (rowOf k))).toNat
  · rw [View.read_writes_cons_unit_of_mem v4 f inb _ [] y (ixR (y 3)) (off3_eq k w) ?_, pay2_eq, blkF_succ_of_eq hp _ k.val y (rowOf k) rfl h.1 h.2,
      View.readAt_apply]
    · congr 1
      funext a
      apply Fin.ext
      have e := off2_eq k
      match a with
      | ⟨0, _⟩ => show k1_off2 k 0 + 1 * 0 = 0; rw [e]; rfl
      | ⟨1, _⟩ => show k1_off2 k 1 + 1 * 0 = (y 1).val; rw [e, h.1]; rfl
      | ⟨2, _⟩ => show k1_off2 k 2 + 1 * 0 = k.val % 32; rw [e]; rfl
      | ⟨3, _⟩ => show k1_off2 k 3 + 1 * (y 3).val = (y 3).val; rw [e]; show 0 + 1 * (y 3).val = (y 3).val; omega
    · intro a
      match a with
      | ⟨0, _⟩ => show (y 0).val = 0 + 0; omega
      | ⟨1, _⟩ => show (y 1).val = k.val / 32 + 0; omega
      | ⟨2, _⟩ => show (y 2).val = w.toNat + 0; rw [hw]; omega
      | ⟨3, _⟩ => show (y 3).val = 0 + (y 3).val; omega
  · rw [blkF_succ_of_ne hp _ k.val y (rowOf k) rfl h, ← hf]
    have hne : (y 1).val ≠ k.val / 32 ∨ (y 2).val ≠ w.toNat := by rw [hw]; omega
    rcases hne with hne | hne
    · rw [View.read_writes_cons_unit_of_not_mem v4 f inb _ [] y (off3_eq k w) (1 : Fin 4) (by
        show (y 1).val < k.val / 32 ∨ k.val / 32 + 1 ≤ (y 1).val; omega)]; rfl
    · rw [View.read_writes_cons_unit_of_not_mem v4 f inb _ [] y (off3_eq k w) (2 : Fin 4) (by
        show (y 2).val < w.toNat ∨ w.toNat + 1 ≤ (y 2).val; omega)]; rfl

set_option maxRecDepth 16384 in
theorem tc_body_run (d : Dev nD) (i : grid1.Coords)
    (M2 : Memref sig .tc .smem S32 .i32) (h2 : M2.IsWhole) (M3 : Memref sig .tc .vmem S1x8x32x128 .f32) (h3 : M3.IsWhole)
    (M4 : Memref sig .tc .vmem S1x8x2048x128 .f32) (h4 : M4.IsWhole)
    (f2 : Buf (Elt F) (M2.view.loc (T (τ := τ) d))) (f3 : Buf (Elt F) (M3.view.loc (T (τ := τ) d))) (f4 : Buf (Elt F) (M4.view.loc (T (τ := τ) d)))
    (hp : PosOK (M2.view.read (Elt F) f2)) :
    iprop((M2.view.loc (T (τ := τ) d) ↦[M2.view.set]{fullShare} f2) ∗ (M3.view.loc (T (τ := τ) d) ↦[M3.view.set]{fullShare} f3)
        ∗ (M4.view.loc (T (τ := τ) d) ↦[M4.view.set]{fullShare} f4))
      ⊢ (wp frame (wpE (defs₀ (F := F)) 𝒱₀ (T (τ := τ) d) none) Set.univ (cc1__tc_body i M2 h2 M3 h3 M4 h4)
          fun _ => tcInv d M2 M3 M4 f2 f3 256 : sProp 𝕄) := by
  sl_unfold [cc1__tc_body]
  iintro ⟨H2, H3, H4⟩
  sl_exec
  sl_for (fun k _ => tcInv d M2 M3 M4 f2 f3 k) $$ [H2 H3 H4]
  case region =>
    intro k _
    unfold tcInv
    iintro ⟨H2, H3, %f, H4, %hf⟩
    have hchk : k1_chk1 k (M2.view.readAt (Elt F) (Rect.unit (s := S32) (k1_off1 k) S1.size (k1_off1_inb k)).toLoadRect f2
        (Shape.Idx.first (numel1_S1.symm ▸ Nat.one_pos))) := chk_ok k _ (by rw [word_read]; exact hp.1 _)
    sl_exec
    sl_step
    isplitl [H2]; · iexact H2
    isplitl [H3]; · iexact H3
    iexists _; isplitl [H4]; · iexact H4
    ipureintro
    exact trip_value M4.view M3.view f f3 hp k _ (word_read M2.view f2 k) _ hf
  · unfold tcInv
    isplitl [H2]; · iexact H2
    isplitl [H3]; · iexact H3
    iexists _; isplitl [H4]; · iexact H4
    ipureintro
    rw [blkF_zero]
    exact View.read_writes_full M4.view _ _ _ _
  · rw [show Scf.trips k1_t1_loop.lb k1_t1_loop.ub k1_t1_loop.st = 256 from trips_eq]
    iintro %_ H
    sl_step
    iexact H

end Cert.Proof

end
-- ==== Proof.TcRegion.lean ====
/-
  The TensorCore call as one region of @main: its blocks' contents at each point of the grid, its body at a point, and
  the region entered with every unscoped array at a valuation and left with the call's result written.
-/
module

public import proofs.«01_k».proof.Proof.TcBody

public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame
public import Idealize.ShloMosaic.Lib.Pipeline.ValueKit

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]
local notation "𝕄" => MT nD τ sig (HIx 1) (Elt F) ℕ UU ℕ

/-! ## The blocks -/

/-- Every unscoped array's contents, per device. -/
abbrev Vals (F : FTy → Type) : Type := (c : Dev nD) → (b : Ref sig .tc) → Buf (Elt F) ((SparseCore.T (τ := τ) c).loc b)

variable (A₀ : Vals F)

/-- The indices and the block of new values that point `t` reads. -/
abbrev pBlk (c : Dev nD) (t : Fin cfg1.N) : S32.Idx → BitVec 32 := ((cfg1.win 0).blk t).view.read (Elt F) (A₀ c main_arg0)
abbrev vBlk (c : Dev nD) (t : Fin cfg1.N) : S1x8x32x128.Idx → Elt F .f32 := ((cfg1.win 1).blk t).view.read (Elt F) (A₀ c main_arg2)

/-- The region's data: the arrays at `A₀`; a point leaves the inputs' buffers as read and the output's at its block. -/
def dat (c : Dev nD) : Dat τ (Elt F) (HIx 1) ℕ UU ℕ cfg1 c where
  A w := A₀ c (Pipeline.arrRef spec1 w)
  after w t := match w with
    | ⟨0, _⟩ => pBlk A₀ c t
    | ⟨1, _⟩ => vBlk A₀ c t
    | ⟨2, _⟩ => blkF (pBlk A₀ c t) (vBlk A₀ c t) 256
  Φ _ := Pipeline.scopedRest (Ix := HIx 1) (Name := ℕ) (U := UU) (Lvl := ℕ) (Val := Elt F) spec1 c
  q _ := fullShare
  owed _ := 0
  recorded _ := {x | (K (F := F)).lev (SparseCore.T c, x.1) x.2 ≤ 8}

theorem before_0 (c : Dev nD) (t : Fin cfg1.N) (d) : (dat A₀ c).before 0 t d = pBlk A₀ c t :=
  Dat.before_in_eq_fetched (dat A₀ c) 0 rfl (fun _ => rfl) (fun _ _ _ => rfl) (fun _ => rfl) t d

theorem before_1 (c : Dev nD) (t : Fin cfg1.N) (d) : (dat A₀ c).before 1 t d = vBlk A₀ c t :=
  (Dat.before_fetched (dat A₀ c) 1 t (fetch1_1 t) d).trans rfl

theorem body_obligation (hp : ∀ c t, PosOK (pBlk A₀ c t)) (c : Dev nD) :
    BodyObligation (dat A₀ c) (defs₀ (F := F)) 𝒱₀ (none : HIx 1) Set.univ := fun t => by
  rw [bigSep_W1, bigSep_W1]
  unfold owns
  rw [show (dat A₀ c).Φ t.castSucc = (dat A₀ c).Φ t.succ from rfl, show (dat A₀ c).owesAt none t.castSucc = (dat A₀ c).owesAt none t.succ from rfl]
  iintro ⟨HΦ, Howes, ⟨%d0, %f0, %hf0, H0⟩, ⟨%d1, %f1, %hf1, H1⟩, ⟨%d2, %f2, -, H2⟩⟩
  rw [before_0] at hf0
  rw [before_1] at hf1
  have hpos : PosOK (((cfg1.win 0).stage (cfg1.slots t 0)).view.read (Elt F) f0) := by rw [hf0]; exact hp c t
  iapply (wp_wand_r frame _ _)
  isplitl [H0 H1 H2]
  · iapply (tc_body_run (F := F) c (grid1.coords t) ((cfg1.win 0).stage (cfg1.slots t 0)) (hstage1_0 ((cfg1.slots t 0).cast nbuf1_0))
      ((cfg1.win 1).stage (cfg1.slots t 1)) (hstage1_1 ((cfg1.slots t 1).cast nbuf1_1))
      ((cfg1.win 2).stage (cfg1.slots t 2)) (hstage1_2 ((cfg1.slots t 2).cast nbuf1_2)) f0 f1 f2 hpos)
    isplitl [H0]; · iexact H0
    isplitl [H1]; · iexact H1
    iexact H2
  iintro %_ H
  unfold tcInv
  icases H with ⟨H0, H1, %f, H2, %hf⟩
  simp only [show ∀ w i, cfg1.idle w i = false from fun _ _ => rfl]
  isplitl [HΦ]; · iexact HΦ
  isplitl [Howes]; · iexact Howes
  isplitl [H0]; · iexists f0; isplitr; · ipureintro; exact hf0
                  iexact H0
  isplitl [H1]; · iexists f1; isplitr; · ipureintro; exact hf1
                  iexact H1
  iexists f; isplitr
  · ipureintro; rw [hf, hf0, hf1]; rfl
  iexact H2

/-! ## What the region leaves in its output -/

/-- An element of the arrays of new values and of results, by its coordinates. -/
def ixK (b : Fin 8) (h : Fin 16) (r : Fin 32) (j : Fin 128) : S8x16x32x128.Idx := fun a => match a with
  | ⟨0, _⟩ => b | ⟨1, _⟩ => h | ⟨2, _⟩ => r | ⟨3, _⟩ => j

/-- The result: row `p r` of every head holds that head's new row `r`; every other row is zero. -/
def kF (p : S32.Idx → BitVec 32) (v : S8x16x32x128.Idx → Elt F .f32) (x : S8x16x2048x128.Idx) : Elt F .f32 :=
  open scoped Classical in
  if h : ∃ r : Fin 32, (p (ixP r)).toNat = (x 2).val then v (ixK (x 0) (x 1) h.choose (x 3)) else Scalar.ofBits .f32 0x00000000#32

theorem kF_hit {p : S32.Idx → BitVec 32} (hp : PosOK p) (v : S8x16x32x128.Idx → Elt F .f32) (x : S8x16x2048x128.Idx) (r : Fin 32)
    (h : (p (ixP r)).toNat = (x 2).val) : kF p v x = v (ixK (x 0) (x 1) r (x 3)) := by
  have hh : ∃ r : Fin 32, (p (ixP r)).toNat = (x 2).val := ⟨r, h⟩
  unfold kF
  rw [dif_pos hh, hp.2 hh.choose r (hh.choose_spec.trans h.symm)]

theorem kF_miss (p : S32.Idx → BitVec 32) (v : S8x16x32x128.Idx → Elt F .f32) (x : S8x16x2048x128.Idx)
    (h : ¬ ∃ r : Fin 32, (p (ixP r)).toNat = (x 2).val) : kF p v x = Scalar.ofBits .f32 0x00000000#32 := by
  unfold kF; rw [dif_neg h]

theorem index0 (t : Fin grid1.N) : win1_0.index t = ![0] := by revert t; decide +kernel
theorem index1 (t : Fin grid1.N) : win1_1.index t = ![(grid1.coords t 0).val, (grid1.coords t 1).val, 0, 0] := by revert t; decide +kernel
theorem index2 (t : Fin grid1.N) : win1_2.index t = ![(grid1.coords t 0).val, (grid1.coords t 1).val, 0, 0] := by revert t; decide +kernel

/-- Where point `t`'s blocks lie in their arrays. -/
theorem emb0 (t : Fin grid1.N) (y : S32.Idx) : (win1_0.blk t).view.emb y = y := funext fun a => by
  match a with
  | ⟨0, _⟩ => apply Fin.ext; blk_simp [index0]

theorem emb1 (t : Fin grid1.N) (y : S1x8x32x128.Idx) (x : S8x16x32x128.Idx) (h0 : (x 0).val = (grid1.coords t 0).val)
    (h1 : (x 1).val = (grid1.coords t 1).val * 8 + (y 1).val) (h2 : (x 2).val = (y 2).val) (h3 : (x 3).val = (y 3).val) :
    (win1_1.blk t).view.emb y = x := funext fun a => by
  have hy : (y 0).val < 1 := (y 0).isLt
  match a with
  | ⟨0, _⟩ => apply Fin.ext; refine Eq.trans ?_ h0.symm; blk_simp [index1]
  | ⟨1, _⟩ => apply Fin.ext; refine Eq.trans ?_ h1.symm; blk_simp [index1]; try rfl
  | ⟨2, _⟩ => apply Fin.ext; refine Eq.trans ?_ h2.symm; blk_simp [index1]; try rfl
  | ⟨3, _⟩ => apply Fin.ext; refine Eq.trans ?_ h3.symm; blk_simp [index1]; try rfl

theorem emb2 (t : Fin grid1.N) (y : S1x8x2048x128.Idx) :
    ((win1_2.blk t).view.emb y 0).val = (grid1.coords t 0).val ∧ ((win1_2.blk t).view.emb y 1).val = (grid1.coords t 1).val * 8 + (y 1).val
      ∧ ((win1_2.blk t).view.emb y 2).val = (y 2).val ∧ ((win1_2.blk t).view.emb y 3).val = (y 3).val := by
  have hy : (y 0).val < 1 := (y 0).isLt
  refine ⟨?_, ?_, ?_, ?_⟩
  · blk_simp [index2]; try omega
  · blk_simp [index2]
  · blk_simp [index2]
  · blk_simp [index2]

theorem pBlk_eq (c : Dev nD) (t : Fin cfg1.N) : pBlk A₀ c t = A₀ c main_arg0 :=
  funext fun y => congrArg (A₀ c main_arg0) (emb0 t y)

theorem vBlk_apply (c : Dev nD) (t : Fin cfg1.N) (y : S1x8x32x128.Idx) (x : S8x16x32x128.Idx) (h0 : (x 0).val = (grid1.coords t 0).val)
    (h1 : (x 1).val = (grid1.coords t 1).val * 8 + (y 1).val) (h2 : (x 2).val = (y 2).val) (h3 : (x 3).val = (y 3).val) :
    vBlk A₀ c t y = A₀ c main_arg2 x :=
  congrArg (A₀ c main_arg2) (emb1 t y x h0 h1 h2 h3)

theorem blk_value {p : S32.Idx → BitVec 32} (hp : PosOK p) (v : S8x16x32x128.Idx → Elt F .f32) (v' : S1x8x32x128.Idx → Elt F .f32)
    (y : S1x8x2048x128.Idx) (x : S8x16x2048x128.Idx) (h2 : (x 2).val = (y 2).val)
    (hv : ∀ r : Fin 32, v' (ixB (y 1) r (y 3)) = v (ixK (x 0) (x 1) r (x 3))) : blkF p v' 256 y = kF p v x := by
  by_cases h : ∃ r : Fin 32, (p (ixP r)).toNat = (x 2).val
  · obtain ⟨r, hr⟩ := h
    have h1 : (y 1).val < 8 := (y 1).isLt
    rw [kF_hit hp v x r hr, blkF_hit hp v' 256 y r (hr.trans h2) (by have := r.isLt; omega), hv]
  · rw [kF_miss p v x h, blkF_miss v' 256 y fun r hr => absurd ⟨r, hr.trans h2.symm⟩ h]

theorem final (hp : ∀ c, PosOK (A₀ c main_arg0)) (c : Dev nD) :
    (dat A₀ c).arrAt 2 cfg1.N = kF (A₀ c main_arg0) (A₀ c main_arg2) := by
  refine (dat A₀ c).arrAt_eq_of_covers 2 _ (by decide +kernel) fun t hf y => ?_
  blk_simp
  rw [show (dat A₀ c).after 2 t = blkF (pBlk A₀ c t) (vBlk A₀ c t) 256 from rfl, pBlk_eq]
  obtain ⟨e0, e1, e2, e3⟩ := emb2 t y
  exact blk_value (hp c) _ _ y _ e2 fun r => vBlk_apply A₀ c t _ _ e0 e1 rfl e3

/-! ## The region -/

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat A₀ c

variable (A₁ : Vals F)

set_option backward.isDefEq.respectTransparency.types false in
/-- The region: entered with the unscoped arrays at `A₀`, left with them at `A₁`, which is `A₀` but for the output. -/
def reg (hp : ∀ c, PosOK (A₀ c main_arg0)) (hout : ∀ c, A₁ c main_v4 = kF (A₀ c main_arg0) (A₀ c main_arg2))
    (hne : ∀ c (b : Ref sig .tc), b ≠ main_v4 → A₁ c b = A₀ c b) :
    Pipeline.RegionSeg (pcfgs (F := F)) adm (pdats A₀ adm) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation A₀ (fun c t => by rw [pBlk_eq]; exact hp c) c).loose
  hwaits := Pipeline.hwaits_of_owed_zero _ _ _ _ (K (F := F)).L (K (F := F)).lev 0 fun _ _ => rfl
  pre c := iprop(unscopedBufs c (A₀ c) ∗ ∃ W, ⌜(K (F := F)).WBelow (SparseCore.T c) W 8⌝ ∗ owes (SparseCore.T (τ := τ) c) (0 : CellTallies nD τ sig (HIx 1)) W)
  post c := iprop(unscopedBufs c (A₁ c) ∗ ∃ W, ⌜(K (F := F)).WBelow (SparseCore.T c) W 8⌝ ∗ owes (SparseCore.T (τ := τ) c) (0 : CellTallies nD τ sig (HIx 1)) W)
  X _ := BI.emp
  Y _ := BI.emp
  Z c := Pipeline.unscopedRest (Ix := HIx 1) (Name := ℕ) (U := UU) (Lvl := ℕ) spec1 c (A₀ c)
  hentry c := by
    rw [Pipeline.ownSems0_none]
    have hsplit := Pipeline.arrays_of_unscopedBufs (p := 0) (pcfgs (F := F)) adm (pdats A₀ adm) launch1.win launch1.arr_whole c
      ((pdats A₀ adm 0 c).share_full fun _ => rfl) (A₀ c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW x hx)
      iexact HO
    isplitr; · iempintro
    iexact Hrest
  hin c := by
    rw [show (pdats A₀ adm 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats A₀ adm 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats A₀ adm) ((pdats A₀ adm 0 c).share_full fun _ => rfl) (A₀ c) (A₁ c) ((pdats A₀ adm 0 c).arrAt · cfg1.N)
      (fun w => by
        fin_cases w
        · exact ((pdats A₀ adm 0 c).arrAt_in 0 rfl _).trans (hne c main_arg0 (by decide)).symm
        · exact ((pdats A₀ adm 0 c).arrAt_in 1 rfl _).trans (hne c main_arg2 (by decide)).symm
        · exact (final A₀ hp c).trans (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro x hx
      rcases hW hx with h | ⟨w, s, h⟩
      · exact h
      · rw [h]; exact Nat.zero_le _
    iexact HO

end Cert.Proof

end
-- ==== Proof.Main.lean ====
/-
  @main on the TensorCore, from the launch memory to its return: the arrays' contents after each of its statements.
-/
module

public import proofs.«01_k».proof.Proof.Deal

public import proofs.«01_k».proof.Proof.TcRegion

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split wp_hlo_within)
open Idealize.ShloMosaic.Pipeline (ucRefs)

variable {F : FTy → Type} [FloatOps F]
local notation "𝕄" => MT nD τ sig (HIx 1) (Elt F) ℕ UU ℕ

variable (m : (ℓ : Loc nD τ sig) → Buf (Elt F) ℓ) (ρ : Dev nD → PrngReg)

/-! ## The arrays' contents after each statement -/

/-- A TensorCore array, as the device's. -/
abbrev rf (b : Ref sig .tc) : DevRef τ sig := Proc.devRef .tc b

abbrev opA : HloOp τ sig (Elt F) :=
  StableHlo.reshape main_arg1 main_v0 (rfl : (.f32 : EltTy) = .f32) shapeCasts_S8x16x32x128_S4096x128
abbrev opZ : HloOp τ sig (Elt F) :=
  StableHlo.reshape main_arg3 main_v1 (rfl : (.f32 : EltTy) = .f32) shapeCasts_S8x16x2048x128_S262144x128
abbrev opR : HloOp τ sig (Elt F) :=
  StableHlo.reshape main_v2 main_v3 (rfl : (.f32 : EltTy) = .f32) shapeCasts_S262144x128_S8x16x2048x128

/-- At the launch; after the two reshapes. -/
def W0 (d : Dev nD) : Valuation τ sig (Elt F) := fun b => m (d, b)
def W1 (d : Dev nD) : Valuation τ sig (Elt F) := (opA (F := F)).result (W0 m d)
def W2 (d : Dev nD) : Valuation τ sig (Elt F) := (opZ (F := F)).result (W1 m d)

/-- The SparseCore call's arrays as it finds them. -/
def ops (d : Dev nD) : Ops F := ⟨W2 m d (rf main_arg0), W2 m d (rf main_v0), W2 m d (rf main_v1), W2 m d (rf main_v2)⟩

/-- After the SparseCore call; after its result's reshape; after the TensorCore call. -/
def W3 (d : Dev nD) : Valuation τ sig (Elt F) :=
  Function.update (W2 m d) (rf main_v2) (outF (ops m d).p (ops m d).a (ops m d).z)
def W4 (d : Dev nD) : Valuation τ sig (Elt F) := (opR (F := F)).result (W3 m d)
def W5 (d : Dev nD) : Valuation τ sig (Elt F) :=
  Function.update (W4 m d) (rf main_v4) (kF (W4 m d (rf main_arg0)) (W4 m d (rf main_arg2)))

/-- An array the reshapes and the SparseCore call do not write. -/
theorem W4_of_ne (d : Dev nD) (b : Ref sig .tc) (h0 : b ≠ main_v0) (h1 : b ≠ main_v1) (h2 : rf b ≠ rf main_v2) (h3 : b ≠ main_v3) :
    W4 m d (rf b) = m (d, rf b) := by
  unfold W4
  rw [StableHlo.reshape_result_ne' _ _ _ _ _ h3]
  unfold W3
  rw [Function.update_of_ne h2]
  unfold W2 W1
  rw [StableHlo.reshape_result_ne' _ _ _ _ _ h1, StableHlo.reshape_result_ne' _ _ _ _ _ h0]
  rfl

theorem ops_p (d : Dev nD) : (ops m d).p = m (pLoc d) := by
  show W2 m d (rf main_arg0) = _
  unfold W2 W1
  rw [StableHlo.reshape_result_ne' _ _ _ _ _ (by decide), StableHlo.reshape_result_ne' _ _ _ _ _ (by decide)]
  rfl

theorem ops_a (d : Dev nD) : (ops m d).a = shapeCast S4096x128 (m (d, rf main_arg1)) shapeCasts_S8x16x32x128_S4096x128 := by
  show W2 m d (rf main_v0) = _
  unfold W2 W1
  rw [StableHlo.reshape_result_ne' _ _ _ _ _ (by decide), StableHlo.reshape_result']
  rfl

theorem ops_z (d : Dev nD) : (ops m d).z = shapeCast S262144x128 (m (d, rf main_arg3)) shapeCasts_S8x16x2048x128_S262144x128 := by
  show W2 m d (rf main_v1) = _
  unfold W2
  rw [StableHlo.reshape_result']
  unfold W1
  rw [StableHlo.reshape_result_ne' _ _ _ _ _ (by decide)]
  rfl

theorem W4_v3 (d : Dev nD) : W4 m d (rf main_v3)
    = shapeCast S8x16x2048x128 (outF (ops m d).p (ops m d).a (ops m d).z) shapeCasts_S262144x128_S8x16x2048x128 := by
  unfold W4
  rw [StableHlo.reshape_result']
  unfold W3
  rw [Function.update_self]
  rfl

/-- What the claims read: the inputs as launched, and the two results. -/
theorem W5_arg (d : Dev nD) (b : Ref sig .tc) (h0 : b ≠ main_v0) (h1 : b ≠ main_v1) (h2 : rf b ≠ rf main_v2) (h3 : b ≠ main_v3)
    (h4 : rf b ≠ rf main_v4) : W5 m d (rf b) = m (d, rf b) := by
  unfold W5; rw [Function.update_of_ne h4]; exact W4_of_ne m d b h0 h1 h2 h3

theorem W5_v3 (d : Dev nD) : W5 m d (rf main_v3)
    = shapeCast S8x16x2048x128 (outF (ops m d).p (ops m d).a (ops m d).z) shapeCasts_S262144x128_S8x16x2048x128 := by
  unfold W5; rw [Function.update_of_ne (by decide)]; exact W4_v3 m d

theorem W5_v4 (d : Dev nD) : W5 m d (rf main_v4) = kF (m (pLoc d)) (m (d, rf main_arg2)) := by
  unfold W5
  rw [Function.update_self, W4_of_ne m d main_arg0 (by decide) (by decide) (by decide) (by decide),
    W4_of_ne m d main_arg2 (by decide) (by decide) (by decide) (by decide)]

/-! ## The SparseCore call's arrays out of the held ones -/

abbrev S4 : Finset (DevRef τ sig) := {rf main_arg0, rf main_v1, rf main_v0, rf main_v2}

theorem S4_sub : S4 ⊆ ucRefs τ sig := by decide

theorem held_S4 (d : Dev nD) (W : Valuation τ sig (Elt F)) (C : Ops F) (o : S262144x128.Idx → Elt F .f32) (hp : W (rf main_arg0) = C.p)
    (hz : W (rf main_v1) = C.z) (ha : W (rf main_v0) = C.a) (ho : W (rf main_v2) = o) :
    (held (SparseCore.T d) S4 W : sProp 𝕄) = wholeRes C o d := by
  unfold held S4
  rw [SparseCore.bigSep_insert' (by decide), SparseCore.bigSep_insert' (by decide), SparseCore.bigSep_insert' (by decide), bigSep_singleton,
    hp, hz, ha, ho]

theorem held_rest (d : Dev nD) : (held (SparseCore.T d) (ucRefs τ sig \ S4) (W3 m d) : sProp 𝕄) = held (SparseCore.T d) (ucRefs τ sig \ S4) (W2 m d) :=
  bigSep_congr fun b hb => by
    unfold W3
    rw [Function.update_of_ne]
    rintro rfl
    exact (Finset.mem_sdiff.mp hb).2 (by decide)

theorem held_W2 (d : Dev nD) : (held (SparseCore.T d) (ucRefs τ sig) (W2 m d) : sProp 𝕄)
    = iprop(wholeRes (ops m d) (ops m d).o d ∗ held (SparseCore.T d) (ucRefs τ sig \ S4) (W2 m d)) := by
  rw [held_sub_split _ S4_sub, held_S4 d (W2 m d) (ops m d) (ops m d).o rfl rfl rfl rfl]

theorem held_W3 (d : Dev nD) : (held (SparseCore.T d) (ucRefs τ sig) (W3 m d) : sProp 𝕄)
    = iprop(wholeRes (ops m d) (outF (ops m d).p (ops m d).a (ops m d).z) d ∗ held (SparseCore.T d) (ucRefs τ sig \ S4) (W2 m d)) := by
  rw [held_sub_split _ S4_sub, held_rest, held_S4 d (W3 m d) (ops m d) (outF (ops m d).p (ops m d).a (ops m d).z)]
  · unfold W3; rw [Function.update_of_ne (by decide)]; rfl
  · unfold W3; rw [Function.update_of_ne (by decide)]; rfl
  · unfold W3; rw [Function.update_of_ne (by decide)]; rfl
  · unfold W3; rw [Function.update_self]

theorem subA : (opA (F := F)).bufs ⊆ ucRefs τ sig := Pipeline.sub_ucRefs _ (StableHlo.reshape_bufs_sub _ _ _ _ _ _)
theorem subZ : (opZ (F := F)).bufs ⊆ ucRefs τ sig := Pipeline.sub_ucRefs _ (StableHlo.reshape_bufs_sub _ _ _ _ _ _)
theorem subR : (opR (F := F)).bufs ⊆ ucRefs τ sig := Pipeline.sub_ucRefs _ (StableHlo.reshape_bufs_sub _ _ _ _ _ _)

/-! ## The run of @main -/

/-- The pipeline's tables (none), and the TensorCore call's region between the two valuations. -/
abbrev adm : (p : Fin 1) → (pcfgs (F := F) p).Adm := fun p => (cfgs p).toPCfg_adm

theorem phinj : Function.Injective (Pipeline.cellOf (nD := nD) (τ := τ) (Pipeline.pin (pcfgs (F := F)) adm)) := cellOf_inj

def theReg (hp : ∀ d, PosOK (m (pLoc d))) :=
  reg (F := F) (fun d b => W4 m d (rf b)) adm (fun d b => W5 m d (rf b))
    (fun d => by rw [W4_of_ne m d main_arg0 (by decide) (by decide) (by decide) (by decide)]; exact hp d)
    (fun d => by unfold W5; rw [Function.update_self])
    (fun d b hb => by unfold W5; rw [Function.update_of_ne (fun h => hb (Proc.devRef_injective _ h))])

/-- The ghost state of the pipeline that the launch deals a device. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- What @main leaves: every unscoped array at its last contents. -/
abbrev FIN (d : Dev nD) : sProp 𝕄 := held (SparseCore.T d) (ucRefs τ sig) (W5 m d)

end Cert.Proof

end
-- ==== Proof.Run.lean ====
/-
  The whole run: @main's triple on the TensorCore from its share of the launch, and what every weakly fair run leaves in
  the arrays and the semaphores.
-/
module

public import proofs.«01_k».proof.Proof.Main

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split wp_hlo_within)
open Idealize.ShloMosaic.Pipeline (ucRefs)

variable {F : FTy → Type} [FloatOps F]
local notation "𝕄" => MT nD τ sig (HIx 1) (Elt F) ℕ UU ℕ

variable (m : (ℓ : Loc nD τ sig) → Buf (Elt F) ℓ) (ρ : Dev nD → PrngReg)

/-! ## The TensorCore call, under the SparseCore program's definitions -/

/-- The TensorCore call's program, over its own labels and over the whole program's. -/
abbrev callP : Prog (TpuEff nD τ sig (Elt F) (ΛP (F := F)) .tc) PUnit := .op (.customCall (Pipeline.entry 0) ()) fun _ => Prog.ret ⟨⟩
abbrev callL : Prog (TpuEff nD τ sig (Elt F) (SparseCore.Sig (ΛP (F := F)) 1) .tc) PUnit := Prog.lift (.customCall (SparseCore.inner (Pipeline.entry 0)) ())

theorem tc_call1 (d : Dev nD) (Q : PUnit → sProp 𝕄) :
    (wp frame (wpE (D (F := F)) 𝒱 (SparseCore.T d) none) Set.univ (callP (F := F)) Q : sProp 𝕄)
      ⊢ wp frame (wpE ((K (F := F)).defs (D (F := F))) 𝒱 (SparseCore.T d) none) Set.univ
          (callL (F := F)) Q :=
  (K (F := F)).wp_liftProg (D (F := F)) 𝒱 (SparseCore.T d) Set.univ none (callP (F := F)) Q

theorem tc_call0 [∀ e, Nonempty (Elt F e)] (hp : ∀ d, PosOK (m (pLoc d))) (d : Dev nD) (Q : PUnit → sProp 𝕄) :
    iprop((iprop(boundary (SparseCore.T (τ := τ) d) ∗ (theReg m hp).post d) -∗ wp frame (wpE (D (F := F)) 𝒱 (SparseCore.T d) none) Set.univ (Prog.ret ⟨⟩) Q) ∗ boundary (SparseCore.T (τ := τ) d) ∗ (theReg m hp).pre d
        ∗ levAts (K (F := F)).L (K (F := F)).lev ∗ G d)
      ⊢ wp frame (wpE (D (F := F)) 𝒱 (SparseCore.T d) none) Set.univ (callP (F := F)) Q := (Pipeline.RegionSeg.wp (pcfgs (F := F)) adm (pdats (fun d b => W4 m d (rf b)) adm) (none : HIx 1) phinj EP defs₀ 𝒱₀
    (K (F := F)).L (K (F := F)).lev (theReg m hp) d none (fun _ h => nomatch h) (α := PUnit.{1}) (fun _ => Prog.ret PUnit.unit) Q)

/-- What the TensorCore owes between calls: nothing, its waits at the levels of the calls already made. -/
abbrev idle (d : Dev nD) : sProp 𝕄 :=
  iprop(∃ W, ⌜(K (F := F)).WBelow (SparseCore.T d) W 8⌝ ∗ owes (SparseCore.T (τ := τ) d) (0 : CellTallies nD τ sig (HIx 1)) W)

theorem theReg_pre (hp : ∀ d, PosOK (m (pLoc d))) (d : Dev nD) :
    (theReg m hp).pre d = iprop(held (SparseCore.T d) (ucRefs τ sig) (W4 m d) ∗ idle d) := by
  rw [← Pipeline.unscopedBufs_held]; rfl
theorem theReg_post (hp : ∀ d, PosOK (m (pLoc d))) (d : Dev nD) :
    (theReg m hp).post d = iprop(held (SparseCore.T d) (ucRefs τ sig) (W5 m d) ∗ idle d) := by
  rw [← Pipeline.unscopedBufs_held]; rfl

/-- The region within the program that holds the SparseCore call too. -/
theorem tc_call [∀ e, Nonempty (Elt F e)] (hp : ∀ d, PosOK (m (pLoc d))) (d : Dev nD) (Q : PUnit.{1} → sProp 𝕄) :
    iprop((iprop(boundary (SparseCore.T (τ := τ) d) ∗ held (SparseCore.T d) (ucRefs τ sig) (W5 m d) ∗ idle d) -∗ Q ⟨⟩)
        ∗ boundary (SparseCore.T (τ := τ) d) ∗ (held (SparseCore.T d) (ucRefs τ sig) (W4 m d) ∗ idle d)
        ∗ levAts (K (F := F)).L (K (F := F)).lev ∗ G d)
      ⊢ wp frame (wpE ((K (F := F)).defs (D (F := F))) 𝒱 (SparseCore.T d) none) Set.univ (callL (F := F)) Q := by
  refine BIBase.Entails.trans ?_ ((tc_call0 m hp d Q).trans (tc_call1 d Q))
  rw [theReg_pre, theReg_post]
  iintro ⟨Hk, Hb, Hpre, Hl, Hg⟩
  isplitl [Hk]
  · iintro H
    rw [wp_ret]
    ihave H := Hk $$ H
    imodintro
    iexact H
  isplitl [Hb]; · iexact Hb
  isplitl [Hpre]; · iexact Hpre
  isplitl [Hl]; · iexact Hl
  iexact Hg

/-- The rest of the TensorCore's state after the SparseCore call. -/
abbrev stRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_one (d : Dev nD) : ((K (F := F)).tcSt EH d 1 : sProp 𝕄) = iprop(idle d ∗ stRest d) := by
  unfold SparseCore.Cfg.tcSt
  rw [(K (F := F)).Otc_end d le_rfl]
  rfl

theorem hmain [∀ e, Nonempty (Elt F e)] (hp : ∀ d, PosOK (m (pLoc d))) (κ : GSem nD τ sig → ℕ) (d : Dev nD) :
    iprop((K (F := F)).ctx EH (P (ops m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (W0 m d)
    from Pipeline.unscopedBufs_held d (W0 m d)]
  simp only [main, wp_bind, wp_pure]
  iintro ⟨#Hctx, Hst, ⟨Hb, Hheld, Hts, -⟩, HG⟩
  iapply (wp_hlo_within 𝒱 (SparseCore.T d) none Set.univ (op := opA) (S := ucRefs τ sig) subA (V := W0 m d)) $$ [Hb Hheld]
  · isplitl [Hb] <;> iassumption
  iintro ⟨Hb, Hheld⟩
  rw [wp_ret]; imodintro
  iapply (wp_hlo_within 𝒱 (SparseCore.T d) none Set.univ (op := opZ) (S := ucRefs τ sig) subZ (V := W1 m d)) $$ [Hb Hheld]
  · isplitl [Hb]; · iexact Hb
    iapply (show (held (SparseCore.T d) (ucRefs τ sig) ((opA (F := F)).result (W0 m d)) : sProp 𝕄) ⊢ held (SparseCore.T d) (ucRefs τ sig) (W1 m d) from .rfl)
    iexact Hheld
  iintro ⟨Hb, Hheld⟩
  rw [wp_ret]; imodintro
  ihave Hheld := (show (held (SparseCore.T d) (ucRefs τ sig) ((opZ (F := F)).result (W1 m d)) : sProp 𝕄) ⊢ _ from Entails.of_eq (held_W2 m d)) $$ Hheld
  icases Hheld with ⟨Hw, Hrest⟩
  ihave Hw := (deal (ops m d) (ops m d).o d) $$ Hw
  icases Hw with ⟨Hr, Hw⟩
  iapply ((K (F := F)).wp_run (D (F := F)) 𝒱 (EH := EH) (P := P (ops m)) κ d 0) $$ [Hst Hw Hr Hrest Hb Hts HG]
  isplitr; · iexact Hctx
  isplitl [Hst]; · iexact Hst
  isplitl [Hw]; · rw [st_eq]; iexact Hw
  iintro ⟨Hst, Hdn⟩
  ihave Hw := (Entails.of_eq (dn_eq (ops m) d)) $$ Hdn
  ihave Hw := (gather (ops m d) (outF (ops m d).p (ops m d).a (ops m d).z) d) $$ [Hr Hw]
  · isplitl [Hr] <;> iassumption
  ihave Hheld := (Entails.of_eq (held_W3 m d).symm) $$ [Hw Hrest]
  · isplitl [Hw] <;> iassumption
  iapply (wp_hlo_within 𝒱 (SparseCore.T d) none Set.univ (op := opR) (S := ucRefs τ sig) subR (V := W3 m d)) $$ [Hb Hheld]
  · isplitl [Hb] <;> iassumption
  iintro ⟨Hb, Hheld⟩
  rw [wp_ret]; imodintro
  ihave Hst := (show ((K (F := F)).tcSt EH d ((0 : Fin 1).val + 1) : sProp 𝕄) ⊢ _ from Entails.of_eq (tcSt_one d)) $$ Hst
  icases Hst with ⟨HO, Hst⟩
  rw [tcSt_one]
  iapply (tc_call m hp d)
  isplitl [Hst Hts]
  · iintro ⟨Hb, Hheld, HO⟩
    imodintro
    isplitl [HO Hst]
    · isplitl [HO]; · iexact HO
      iexact Hst
    isplitl [Hheld]; · iexact Hheld
    isplitl [Hb] <;> iassumption
  isplitl [Hb]; · iexact Hb
  isplitl [Hheld HO]
  · isplitl [Hheld]
    · iapply (show (held (SparseCore.T d) (ucRefs τ sig) ((opR (F := F)).result (W3 m d)) : sProp 𝕄) ⊢ held (SparseCore.T d) (ucRefs τ sig) (W4 m d) from .rfl)
      iexact Hheld
    iexact HO
  isplitr
  · iapply ((K (F := F)).ctx_levAts κ); iexact Hctx
  iexact HG

/-! ## The launch's ghost state -/

/-- The handshakes' rounds, the pipeline's rounds, the transfers' counters. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem ownU_split (a : UH) (b : UP) : (ownU (a, (b, (1 : Counters))) : sProp 𝕄) ⊢ iprop(BI.own (EH (F := F) a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

theorem G_eq : (bigSep Finset.univ fun d : Dev nD => G (F := F) d : sProp 𝕄)
    = iprop((bigSep Finset.univ fun c : Dev nD => bigSep Finset.univ fun p : Fin 1 => Pipeline.cellsGhost (Pipeline.pin (pcfgs (F := F)) adm) EP p c)
      ∗ bigSep Finset.univ fun c : Dev nD => bigSep Finset.univ fun p : Fin 1 => Pipeline.toksInit (Pipeline.pin (pcfgs (F := F)) adm) EP p c) := by
  rw [bigSep_sep']
  congr 1
  · exact bigSep_congr fun c _ => (bigSep_univ_of_subsingleton (Φ := fun p : Fin 1 => Pipeline.cellsGhost (Pipeline.pin (pcfgs (F := F)) adm) EP p c) (0 : Fin 1)).symm
  · exact bigSep_congr fun c _ => (bigSep_univ_of_subsingleton (Φ := fun p : Fin 1 => Pipeline.toksInit (Pipeline.pin (pcfgs (F := F)) adm) EP p c) (0 : Fin 1)).symm

theorem x_emp (C : Dev nD → Ops F) :
    (bigSep Finset.univ fun thr : Thread nD τ => bigSep Finset.univ fun q : Fin 1 => (P C).x q thr : sProp 𝕄) = iprop(emp) :=
  (bigSep_congr fun thr _ => (show (bigSep Finset.univ fun q : Fin 1 => (P C).x q thr : sProp 𝕄) = BI.emp from bigSep_emp_const _)).trans (bigSep_emp_const _)

theorem hu₀ (C : Dev nD → Ops F) : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 1 => (P C).x q thr) := by
  rw [G_eq, x_emp]
  unfold u₀
  iintro Hu
  ihave H := (ownU_split _ _) $$ Hu
  icases H with ⟨HH, HP⟩
  imod (Pipeline.fund_ghost (Pipeline.pin (pcfgs (F := F)) adm) EP phinj) $$ HP with ⟨Hg, Ht⟩
  imodintro
  isplitl [HH]; · iexact HH
  isplitl [Hg Ht]
  · isplitl [Hg]; · iexact Hg
    iexact Ht
  iempintro

/-! ## The run -/

/-- What the machine holds at the end: every unscoped array at its last contents. -/
def fq (d : Dev nD) (s' : Phys nD τ sig (Elt F)) : Prop := ∀ b ∈ ucRefs τ sig, s'.mem.mem (d, b) = W5 m d b

theorem hfin (d : Dev nD) (s' : Phys nD τ sig (Elt F)) : iprop(FIN m d ∗ SI s') ⊢ (⌜fq m d s'⌝ : sProp 𝕄) := by
  refine BIBase.Entails.trans (forall_intro fun b => ?_) pure_forall.2
  refine BIBase.Entails.trans (forall_intro fun hb => ?_) pure_forall.2
  unfold FIN held
  rw [SparseCore.bigSep_erase' hb]
  iintro ⟨⟨H, -⟩, HSI⟩
  ihave %h := (SI_pointsTo_agree (st := s') (ℓ := (d, b)) (I := Finset.univ) (q := fullShare) (f := W5 m d b)) $$ [HSI H]
  · isplitl [HSI] <;> iassumption
  ipureintro
  exact funext fun i => h i (Finset.mem_univ i)

def QC : PUnit × MemSt nD τ sig (Elt F) → Prop := fun r =>
  (∀ d : Dev nD, ∀ b ∈ ucRefs τ sig, r.2.mem (d, b) = W5 m d b) ∧ r.2.sem = fun _ => 0

theorem run_main [∀ e, Nonempty (Elt F e)] (hp : ∀ d, PosOK (m (pLoc d))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ops m)) (A := ∅) facts v₀
    (fun q hq => match q with | 0 => nomatch hq)
    (fun q _ => match q with | 0 => tileObl (ops m) facts (fun d => by rw [ops_p]; exact hp d))
    (fun q _ => match q with | 0 => vecSplit (ops m))
    m ρ main (fun d => G d) (FIN m) (u₀ (F := F)) (sep_elim_left.trans (hu₀ (ops m))) (hmain m ρ hp) (fq m) (hfin m) (QC m) (fun _ h hz => ⟨h, hz⟩)

end Cert.Proof

end
-- ==== Proof.Pre.lean ====
/-
  What the two preconditions say: the indices are rows of the cache, no two the same, and in the second both caches are
  zero throughout.
-/
module

public import proofs.«01_k».proof.Proof.Rows
public import Idealize.ShloMosaic.Lib.ReduceAll
public import Idealize.ShloMosaic.Lib.WordArith
public import proofs.«01_k».proof.Pre_pos_ok
public import proofs.«01_k».proof.Pre_caches_zero

@[expose] public section

noncomputable section

namespace Cert.Proof

open Cert.KernelIdeal Cert.KernelIdeal.Gen
open Idealize.ShloMosaic
open Idealize.ShloMosaic.WordArith (andi_ofBool ori_ofBool ofBool_eq_one_iff)

/-- The place `(i, j)` of the table of pairs of indices. -/
def ixPP (i j : Fin 32) : Cert.Pre_pos_ok.S32x32.Idx := fun a => match a with | ⟨0, _⟩ => i | ⟨1, _⟩ => j

/-- A word between 0 and 2047, read signed, is below 2048. -/
theorem word_lt (v : BitVec 32) (e : IntOp.andi (IntOp.cmpi .sge v 0#32) (IntOp.cmpi .slt v 2048#32) = 1#1) : v.toNat < 2048 := by
  simp only [IntOp.cmpi, andi_ofBool, ofBool_eq_one_iff, Bool.and_eq_true, BitVec.sle_eq_decide, BitVec.slt_eq_decide, decide_eq_true_eq,
    BitVec.toInt_eq_toNat_cond, BitVec.toNat_ofNat, Nat.reducePow, Nat.reduceMod] at e
  omega

/-- Two words equal as numbers, whose places in the table say "different or the same place", are at the same place. -/
theorem same_place (v w : BitVec 32) (i j : Fin 32) (h : v.toNat = w.toNat)
    (e : IntOp.ori (IntOp.cmpi .ne v w) (IntOp.cmpi .eq (BitVec.ofNat 32 i.val) (BitVec.ofNat 32 j.val)) = 1#1) : i = j := by
  obtain rfl := BitVec.eq_of_toNat_eq h
  simp only [IntOp.cmpi, ori_ofBool, ofBool_eq_one_iff, Bool.or_eq_true, bne_self_eq_false, Bool.false_eq_true, false_or, beq_iff_eq] at e
  have := congrArg BitVec.toNat e
  simp only [BitVec.toNat_ofNat] at this
  exact Fin.ext (by omega)

theorem and_one (x y : BitVec 1) (e : IntOp.andi x y = 1#1) : x = 1#1 ∧ y = 1#1 := by
  revert e; revert x y; decide

variable {F : FTy → Type} [FloatOps F]

/-- The table of pairs, read at a place: "the two indices differ, or it is one place". -/
theorem pairs_at {h1 h2 h3 h4 h5 h6 h7 h8} (p : S32.Idx → BitVec 32) (i j : Fin 32)
    (e : ori (cmpi .ne (broadcastInDim Cert.Pre_pos_ok.S32x32 ![0, 1] h1 (broadcastInDim Cert.Pre_pos_ok.S32x1 ![0] h2 p))
        (broadcastInDim Cert.Pre_pos_ok.S32x32 ![0, 1] h3 (broadcastInDim Cert.Pre_pos_ok.S1x32 ![1] h4 p)))
      (cmpi .eq (broadcastInDim Cert.Pre_pos_ok.S32x32 ![0, 1] h5 (broadcastInDim Cert.Pre_pos_ok.S32x1 ![0] h6 (iotaInDim Cert.Pre_pos_ok.S32 32 0)))
        (broadcastInDim Cert.Pre_pos_ok.S32x32 ![0, 1] h7 (broadcastInDim Cert.Pre_pos_ok.S1x32 ![1] h8 (iotaInDim Cert.Pre_pos_ok.S32 32 0)))) (ixPP i j) = 1#1) :
    IntOp.ori (IntOp.cmpi .ne (p (ixP i)) (p (ixP j))) (IntOp.cmpi .eq (BitVec.ofNat 32 i.val) (BitVec.ofNat 32 j.val)) = 1#1 := by
  have a1 : broadcastInDim Cert.Pre_pos_ok.S32x32 ![0, 1] h1 (broadcastInDim Cert.Pre_pos_ok.S32x1 ![0] h2 p) (ixPP i j) = p (ixP i) :=
    congrArg p (funext fun a => match a with | ⟨0, _⟩ => rfl)
  have a2 : broadcastInDim Cert.Pre_pos_ok.S32x32 ![0, 1] h3 (broadcastInDim Cert.Pre_pos_ok.S1x32 ![1] h4 p) (ixPP i j) = p (ixP j) :=
    congrArg p (funext fun a => match a with | ⟨0, _⟩ => rfl)
  rw [← a1, ← a2]
  exact e

theorem posOK_of_pos [Cert.Pre_pos_ok.Facts] (p : S32.Idx → BitVec 32) (a b : S8x16x32x128.Idx → Elt F .f32) (k v : S8x16x2048x128.Idx → Elt F .f32)
    (h : Cert.Pre_pos_ok.fn (F := F) p a b k v = fun _ => 1#1) : PosOK p := by
  have e := congrFun h (fun a => nomatch a)
  dsimp only [Cert.Pre_pos_ok.fn] at e
  obtain ⟨e1, e2⟩ := and_one _ _ e
  exact ⟨fun i => word_lt _ (Host.reduce_andi_all _ _ _ _ _ e1 (ixP i)),
    fun i j hij => same_place _ _ i j hij (pairs_at p i j (Host.reduce_andi_all _ _ _ _ _ e2 (ixPP i j)))⟩

/-- A number that compares equal to zero is the number of zero's pattern. -/
theorem eq_zero_of_oeq (x : Ideal .f32) (h : Scalar.cmpf (F := Ideal) .oeq x (Scalar.ofBits (F := Ideal) .f32 0x00000000#32) = 1#1) :
    x = Scalar.ofBits (F := Ideal) .f32 0x00000000#32 := by
  have e : BitVec.ofBool (decide (x = Scalar.ofBits (F := Ideal) .f32 0x00000000#32)) = 1#1 := h
  exact of_decide_eq_true ((ofBool_eq_one_iff _).1 e)

theorem posOK_of_zero [Cert.Pre_caches_zero.Facts] (p : S32.Idx → BitVec 32) (a b : S8x16x32x128.Idx → Elt Ideal .f32)
    (k v : S8x16x2048x128.Idx → Elt Ideal .f32)
    (h : Cert.Pre_caches_zero.fn (F := Ideal) p a b k v = fun _ => 1#1) :
    PosOK p ∧ (∀ x, k x = Scalar.ofBits (F := Ideal) .f32 0x00000000#32) ∧ (∀ x, v x = Scalar.ofBits (F := Ideal) .f32 0x00000000#32) := by
  have e := congrFun h (fun a => nomatch a)
  dsimp only [Cert.Pre_caches_zero.fn, Cert.Pre_caches_zero.fn_part1] at e
  obtain ⟨e, ev⟩ := and_one _ _ e
  obtain ⟨e, ek⟩ := and_one _ _ e
  obtain ⟨e1, e2⟩ := and_one _ _ e
  exact ⟨⟨fun i => word_lt _ (Host.reduce_andi_all _ _ _ _ _ e1 (ixP i)),
    fun i j hij => same_place _ _ i j hij (pairs_at p i j (Host.reduce_andi_all _ _ _ _ _ e2 (ixPP i j)))⟩,
    fun x => eq_zero_of_oeq _ (Host.reduce_andi_all _ _ _ _ _ ek x), fun x => eq_zero_of_oeq _ (Host.reduce_andi_all _ _ _ _ _ ev x)⟩

end Cert.Proof

end
-- ==== Proof.Frames.lean ====
/-
  The frames: every weakly fair run ends with the arguments unchanged and every semaphore at zero, on the bits and on the
  ideal numbers, and likewise the reference's run.
-/
module

public import proofs.«01_k».proof.Proof.Run
public import proofs.«01_k».proof.Proof.Pre
public import proofs.«01_k».proof.Proof.Gen.Kernel
public import proofs.«01_k».proof.Proof.Gen.Pre_pos_ok
public import proofs.«01_k».proof.Proof.Gen.Pre_caches_zero
public import proofs.«01_k».proof.Proof.Gen.ReferenceIdeal.Run

@[expose] public section

noncomputable section

namespace Cert.Proof

open Cert.KernelIdeal Cert.KernelIdeal.Gen
open Idealize.ShloMosaic Idealize.SL.Sem
open Idealize.ShloMosaic.Pipeline (ucRefs)

/-- An argument no statement writes ends as it began. -/
theorem arg_kept {F : FTy → Type} [FloatOps F] (m : (ℓ : Loc nD τ sig) → Buf (Elt F) ℓ) {r : PUnit × MemSt nD τ sig (Elt F)} (h : QC m r) (c : Dev nD)
    (b : Ref sig .tc) (hb : rf b ∈ ucRefs τ sig) (h0 : b ≠ main_v0) (h1 : b ≠ main_v1) (h2 : rf b ≠ rf main_v2) (h3 : b ≠ main_v3) (h4 : rf b ≠ rf main_v4) :
    r.2.mem (c, rf b) = m (c, rf b) := (h.1 c (rf b) hb).trans (W5_arg m c b h0 h1 h2 h3 h4)

/-- All five arguments kept, and the semaphores at zero. -/
theorem args_kept {F : FTy → Type} [FloatOps F] (m : (ℓ : Loc nD τ sig) → Buf (Elt F) ℓ) {r : PUnit × MemSt nD τ sig (Elt F)} (h : QC m r) (c : Dev nD) :
    r.2.mem (c, rf main_arg0) = m (c, rf main_arg0) ∧ r.2.mem (c, rf main_arg1) = m (c, rf main_arg1) ∧ r.2.mem (c, rf main_arg2) = m (c, rf main_arg2)
      ∧ r.2.mem (c, rf main_arg3) = m (c, rf main_arg3) ∧ r.2.mem (c, rf main_arg4) = m (c, rf main_arg4) :=
  ⟨arg_kept m h c main_arg0 (by decide) (by decide) (by decide) (by decide) (by decide) (by decide),
    arg_kept m h c main_arg1 (by decide) (by decide) (by decide) (by decide) (by decide) (by decide),
    arg_kept m h c main_arg2 (by decide) (by decide) (by decide) (by decide) (by decide) (by decide),
    arg_kept m h c main_arg3 (by decide) (by decide) (by decide) (by decide) (by decide) (by decide),
    arg_kept m h c main_arg4 (by decide) (by decide) (by decide) (by decide) (by decide) (by decide)⟩

/-- Every element type has a value. -/
instance eltNonempty {F : FTy → Type} [FloatOps F] : ∀ e, Nonempty (Elt F e)
  | .i1 => ⟨(0 : BitVec 1)⟩ | .i4 => ⟨(0 : BitVec 4)⟩ | .i8 => ⟨(0 : BitVec 8)⟩ | .i16 => ⟨(0 : BitVec 16)⟩ | .i32 => ⟨(0 : BitVec 32)⟩ | .i64 => ⟨(0 : BitVec 64)⟩
  | .fp8e4m3 => ⟨FloatOps.ofBits (F := F) .fp8e4m3 0⟩ | .fp8e5m2 => ⟨FloatOps.ofBits (F := F) .fp8e5m2 0⟩ | .bf16 => ⟨FloatOps.ofBits (F := F) .bf16 0⟩
  | .f16 => ⟨FloatOps.ofBits (F := F) .f16 0⟩ | .f32 => ⟨FloatOps.ofBits (F := F) .f32 0⟩

/-! ## The same program, printed for the bits -/

set_option maxHeartbeats 1000000 in
theorem defs₀_eq : Cert.Kernel.defs₀ (F := Bits) = Cert.KernelIdeal.defs₀ (F := Bits) := by
  funext p ℓ a
  match p, ℓ, a with
  | .scVector c s, 0, _ => rfl
  | .scVector c s, 1, _ => rfl
  | .scScalar c, 0, _ => rfl
  | .scScalar c, 1, _ => rfl
  | .tc, 0, _ => rfl
  | .tc, 1, (t, s) => rfl

theorem defs_eq : Cert.Kernel.defs (F := Bits) = Cert.KernelIdeal.defs (F := Bits) :=
  congrArg (fun D₀ => (K (F := Bits)).defs (Pipeline.defs pcfgs D₀)) defs₀_eq

theorem run_kernel (m : (ℓ : Loc Cert.Kernel.nD Cert.Kernel.τ Cert.Kernel.sig) → Buf (Elt Bits) ℓ) (ρ : Dev Cert.Kernel.nD → PrngReg)
    (hp : ∀ d : Dev nD, PosOK (m (pLoc d))) :
    θ_run (Cert.Kernel.defs (F := Bits)) (Cert.Kernel.threads (F := Bits)) ⟨m, fun _ => 0, ρ⟩ (QC (F := Bits) m) := by
  have h := run_main (F := Bits) m ρ hp
  rw [← defs_eq] at h
  exact h

theorem frame_kernel : Cert.quiescent_Kernel := fun m ρ hpre =>
  (θ_run (Cert.Kernel.defs (F := Bits)) _ _).mono (fun _ h => ⟨fun c => args_kept (F := Bits) m h c, h.2⟩)
    (run_kernel m ρ fun d => posOK_of_pos (F := Bits) _ _ _ _ _ (hpre d))

theorem frame_ideal : Cert.quiescent_KernelIdeal := fun m ρ hpre =>
  (θ_run (Cert.KernelIdeal.defs (F := Ideal)) _ _).mono (fun _ h => ⟨fun c => args_kept m h c, h.2⟩)
    (run_main (F := Ideal) m ρ fun d => posOK_of_pos _ _ _ _ _ (hpre d))

theorem frame_ideal_zero : Cert.quiescent_KernelIdeal_pre_caches_zero := fun m ρ hpre =>
  (θ_run (Cert.KernelIdeal.defs (F := Ideal)) _ _).mono (fun _ h => ⟨fun c => args_kept m h c, h.2⟩)
    (run_main (F := Ideal) m ρ fun d => (posOK_of_zero _ _ _ _ _ (hpre d)).1)

theorem frame_ref : Cert.quiescent_ReferenceIdeal := fun m ρ _ =>
  (θ_run (Cert.ReferenceIdeal.defs (F := Ideal)) _ _).mono (fun r h => ⟨fun c => (h c).2.2, sem_eq_zero_of_no_sems (by decide) r.2⟩)
    (Cert.ReferenceIdeal.Value.run (F := Ideal) m ρ)

theorem frame_ref_zero : Cert.quiescent_ReferenceIdeal_pre_caches_zero := fun m ρ _ => frame_ref m ρ trivial

end Cert.Proof

end
-- ==== Proof.Scatter.lean ====
/-
  What the reference computes: each new row `r` of a head set at the row of the cache its index names, the rest of the
  cache as it was; and, from caches of zeros, that this is the value `kF`.
-/
module

public import proofs.«01_k».proof.Proof.TcRegion
public import proofs.«01_k».proof.Proof.Pre
public import Idealize.ShloMosaic.Lib.Routing.OpsSet
public import Idealize.ShloMosaic.Lib.Routing.OpsPair
public import proofs.«01_k».proof.Proof.Gen.ReferenceIdeal

@[expose] public section

noncomputable section

namespace Cert.Proof

open Cert.KernelIdeal Cert.KernelIdeal.Gen
open Idealize.ShloMosaic
open Idealize.ShloMosaic.Routing

/-- How the reference scatters: along axis 2, one index word per new row. -/
abbrev dS := Cert.ReferenceIdeal.scatter_S8x16x2048x128_S32x1_S8x16x32x128_013_2_2_1

/-- The place of the `r`-th index in the reference's column of indices. -/
def ixC (r : Fin 32) : Cert.ReferenceIdeal.S32x1.Idx := fun a => match a with | ⟨0, _⟩ => r | ⟨1, _⟩ => (0 : Fin 1)

/-! ## Where a new row's element lands -/

section

variable (k : S8x16x32x128.Idx) (idx : IVec Cert.ReferenceIdeal.S32x1 32)

theorem win0 : dS.window k 0 = (k 0).val := rfl
theorem win1 : dS.window k 1 = (k 1).val := rfl
theorem win2 : dS.window k 2 = 0 := rfl
theorem win3 : dS.window k 3 = (k 3).val := rfl
theorem st0 : dS.start k idx 0 = 0 := rfl
theorem st1 : dS.start k idx 1 = 0 := rfl
theorem st3 : dS.start k idx 3 = 0 := rfl
theorem st2 : dS.start k idx 2 = (idx (ixC (k 2))).toInt :=
  congrArg (fun q => (idx q).toInt) (funext fun a => match a with | ⟨0, _⟩ => rfl | ⟨1, _⟩ => Fin.ext rfl)

/-- Element `k` of the new values lands at `x` when its head and column are `x`'s and its row's index is `x`'s row. -/
theorem lands (x : S8x16x2048x128.Idx) :
    dS.resultIdx? k idx = some x ↔ (k 0).val = (x 0).val ∧ (k 1).val = (x 1).val ∧ (idx (ixC (k 2))).toInt = ((x 2).val : Int) ∧ (k 3).val = (x 3).val := by
  rw [resultIdx?_eq_some]
  constructor
  · intro h
    have h0 := h 0; have h1 := h 1; have h2 := h 2; have h3 := h 3
    rw [st0, win0] at h0; rw [st1, win1] at h1; rw [st2, win2] at h2; rw [st3, win3] at h3
    refine ⟨?_, ?_, ?_, ?_⟩ <;> omega
  · rintro ⟨h0, h1, h2, h3⟩ a
    match a with
    | ⟨0, _⟩ => exact (show dS.start k idx 0 + (dS.window k 0 : Int) = ((x 0).val : Int) by rw [st0, win0]; omega)
    | ⟨1, _⟩ => exact (show dS.start k idx 1 + (dS.window k 1 : Int) = ((x 1).val : Int) by rw [st1, win1]; omega)
    | ⟨2, _⟩ => exact (show dS.start k idx 2 + (dS.window k 2 : Int) = ((x 2).val : Int) by rw [st2, win2]; omega)
    | ⟨3, _⟩ => exact (show dS.start k idx 3 + (dS.window k 3 : Int) = ((x 3).val : Int) by rw [st3, win3]; omega)

end

/-! ## The scatter's value -/

variable {F : FTy → Type} [FloatOps F]

/-- The reference's column of index words is the indices, when each is in range: none is negative, so none is moved. -/
theorem col_eq {h1 h2 h3} (p : S32.Idx → BitVec 32) (hp : PosOK p) (r : Fin 32) :
    (broadcastInDim Cert.ReferenceIdeal.S32x1 ![0] h1
      (select (cmpi .slt p (broadcastInDim Cert.ReferenceIdeal.S32 ![] h2 (constantI Cert.ReferenceIdeal.S_ 32 0#32)))
        (addi p (broadcastInDim Cert.ReferenceIdeal.S32 ![] h3 (constantI Cert.ReferenceIdeal.S_ 32 2048#32))) p) (ixC r)).toInt = ((p (ixP r)).toNat : Int) := by
  have e : broadcastInDim Cert.ReferenceIdeal.S32x1 ![0] h1
      (select (cmpi .slt p (broadcastInDim Cert.ReferenceIdeal.S32 ![] h2 (constantI Cert.ReferenceIdeal.S_ 32 0#32)))
        (addi p (broadcastInDim Cert.ReferenceIdeal.S32 ![] h3 (constantI Cert.ReferenceIdeal.S_ 32 2048#32))) p) (ixC r)
      = Scalar.select (IntOp.cmpi .slt (p (ixP r)) 0#32) (IntOp.addi (p (ixP r)) 2048#32) (p (ixP r)) :=
    congrArg (fun i => Scalar.select (IntOp.cmpi .slt (p i) 0#32) (IntOp.addi (p i) 2048#32) (p i)) (funext fun a => match a with | ⟨0, _⟩ => rfl)
  have hr := hp.1 r
  have hi : (p (ixP r)).toInt = ((p (ixP r)).toNat : Int) := by rw [BitVec.toInt_eq_toNat_cond, if_pos (by omega)]
  have hn : IntOp.cmpi .slt (p (ixP r)) 0#32 = 0#1 := by
    have hs : (p (ixP r)).slt 0#32 = false := by
      rw [BitVec.slt_eq_decide, hi]
      exact decide_eq_false (by rw [show (0#32).toInt = 0 from rfl]; omega)
    show BitVec.ofBool ((p (ixP r)).slt 0#32) = 0#1
    rw [hs]; rfl
  rw [e, hn]
  exact hi

/-- The reference's result, from a cache of zeros. -/
theorem scatter_eq (p : S32.Idx → BitVec 32) (hp : PosOK p) (idx : IVec Cert.ReferenceIdeal.S32x1 32) (hidx : ∀ r, (idx (ixC r)).toInt = ((p (ixP r)).toNat : Int))
    (c : S8x16x2048x128.Idx → Elt F .f32) (hc : ∀ x, c x = Scalar.ofBits .f32 0x00000000#32) (v : S8x16x32x128.Idx → Elt F .f32) :
    Host.scatter dS (fun _ b => b) c idx v = kF p v := by
  funext x
  by_cases h : ∃ r : Fin 32, (p (ixP r)).toNat = (x 2).val
  · obtain ⟨r, hr⟩ := h
    rw [kF_hit hp v x r hr]
    refine scatter_set_hit dS c idx v x _ (fun k hk => ?_) (ixK (x 0) (x 1) r (x 3)) ?_
    · obtain ⟨h0, h1, h2, h3⟩ := (lands k idx x).1 hk
      have h2' : (k 2 : Fin 32) = r := hp.2 (k 2) r ((Int.ofNat_inj.1 ((hidx (k 2)).symm.trans h2)).trans hr.symm)
      exact congrArg v (funext fun a => match a with
        | ⟨0, _⟩ => Fin.ext h0 | ⟨1, _⟩ => Fin.ext h1 | ⟨2, _⟩ => h2' | ⟨3, _⟩ => Fin.ext h3)
    · exact (lands _ idx x).2 ⟨rfl, rfl, (hidx r).trans (congrArg Nat.cast hr), rfl⟩
  · rw [kF_miss p v x h, ← hc x]
    refine scatter_set_miss dS c idx v x fun k hk => h ⟨k 2, ?_⟩
    obtain ⟨-, -, h2, -⟩ := (lands k idx x).1 hk
    exact Int.ofNat_inj.1 ((hidx (k 2)).symm.trans h2)

end Cert.Proof

end
-- ==== Proof.Flat.lean ====
/-
  The first result, off its flat rows: row `2048 (16 b + h) + s` of the SparseCore's output is row `s` of head `h` of
  batch `b`, and row `32 (16 b + h) + r` of its new values is that head's new row `r`; from a cache of zeros the result
  is the value `kF` of the new values.
-/
module

public import proofs.«01_k».proof.Proof.TcRegion

@[expose] public section

noncomputable section

namespace Cert.Proof

open Cert.KernelIdeal Cert.KernelIdeal.Gen
open Idealize.ShloMosaic

variable {F : FTy → Type} [FloatOps F]

/-- The flat row of a place, and the flat row of a head's new row. -/
def flatRow (x : S8x16x2048x128.Idx) : Fin 262144 :=
  ⟨((x 0).val * 16 + (x 1).val) * 2048 + (x 2).val, by
    have h0 : (x 0).val < 8 := (x 0).isLt; have h1 : (x 1).val < 16 := (x 1).isLt; have h2 : (x 2).val < 2048 := (x 2).isLt; omega⟩
def flatNew (b : Fin 8) (h : Fin 16) (r : Fin 32) : Fin 4096 := ⟨(b.val * 16 + h.val) * 32 + r.val, by omega⟩

/-- The result read at a place, the output at its flat row. -/
theorem out_at {α : Type} (o : S262144x128.Idx → α) (hc : S262144x128.ShapeCasts S8x16x2048x128) (x : S8x16x2048x128.Idx) :
    shapeCast S8x16x2048x128 o hc x = o (ixZ (flatRow x) (x 3)) :=
  shapeCast_apply o hc x _ (by
    rw [Shape.rowMajor_val_two, Shape.rowMajor_val_four]
    show (((x 0).val * 16 + (x 1).val) * 2048 + (x 2).val) * 128 + (x 3).val = (((x 0).val * 16 + (x 1).val) * 2048 + (x 2).val) * 128 + (x 3).val
    rfl)

/-- The new values by flat row. -/
theorem new_at {α : Type} (a : S8x16x32x128.Idx → α) (hc : S8x16x32x128.ShapeCasts S4096x128) (b : Fin 8) (h : Fin 16) (r : Fin 32) (j : Fin 128) :
    shapeCast S4096x128 a hc (ixA (flatNew b h r) j) = a (ixK b h r j) :=
  shapeCast_apply a hc _ _ (by
    rw [Shape.rowMajor_val_two, Shape.rowMajor_val_four]
    show ((b.val * 16 + h.val) * 32 + r.val) * 128 + j.val = ((b.val * 16 + h.val) * 32 + r.val) * 128 + j.val
    rfl)

/-- The first result, from a cache of zeros. -/
theorem first_eq (p : S32.Idx → BitVec 32) (hp : PosOK p) (a : S8x16x32x128.Idx → Elt F .f32) (c : S8x16x2048x128.Idx → Elt F .f32)
    (hc : ∀ x, c x = Scalar.ofBits .f32 0x00000000#32) (h1 : S262144x128.ShapeCasts S8x16x2048x128) (h2 : S8x16x32x128.ShapeCasts S4096x128)
    (h3 : S8x16x2048x128.ShapeCasts S262144x128) :
    shapeCast S8x16x2048x128 (outF p (shapeCast S4096x128 a h2) (shapeCast S262144x128 c h3)) h1 = kF p a := by
  funext x
  have x0 : (x 0).val < 8 := (x 0).isLt
  have x1 : (x 1).val < 16 := (x 1).isLt
  have x2 : (x 2).val < 2048 := (x 2).isLt
  have hm : (flatRow x).val % 2048 = (x 2).val := by unfold flatRow; simp only; omega
  have hd : (flatRow x).val / 2048 = (x 0).val * 16 + (x 1).val := by unfold flatRow; simp only; omega
  rw [out_at]
  by_cases h : ∃ r : Fin 32, (p (ixP r)).toNat = (x 2).val
  · obtain ⟨r, hr⟩ := h
    rw [kF_hit hp a x r hr]
    exact (outF_hit hp (shapeCast S4096x128 a h2) (shapeCast S262144x128 c h3) (ixZ (flatRow x) (x 3)) r (hr.trans hm.symm) (flatNew (x 0) (x 1) r)
      (congrArg (fun n => n * 32 + r.val) hd.symm)).trans (new_at a h2 (x 0) (x 1) r (x 3))
  · rw [kF_miss p a x h]
    exact (outF_miss p (shapeCast S4096x128 a h2) (shapeCast S262144x128 c h3) (ixZ (flatRow x) (x 3))
      (fun ⟨r, hr⟩ => h ⟨r, hr.trans hm⟩)).trans (hc _)

end Cert.Proof

end
-- ==== Proof.Value.lean ====
/-
  The value claim: on the ideal numbers, from caches of zeros, the kernel's two results are the reference's two scatters;
  both sides are the value `kF`, of the keys and of the values.
-/
module

public import proofs.«01_k».proof.Proof.Frames
public import proofs.«01_k».proof.Proof.Scatter
public import proofs.«01_k».proof.Proof.Flat

@[expose] public section

noncomputable section

namespace Cert.Proof

open Cert.KernelIdeal Cert.KernelIdeal.Gen
open Idealize.ShloMosaic Idealize.SL.Sem
open Idealize.ShloMosaic.Pipeline (ucRefs)

/-- The kernel's first result. -/
theorem kernel_first (m : (ℓ : Loc nD τ sig) → Buf (Elt Ideal) ℓ) {r : PUnit × MemSt nD τ sig (Elt Ideal)} (h : QC m r) (c : Dev nD) (hp : PosOK (m (pLoc c)))
    (hz : ∀ x : S8x16x2048x128.Idx, (m (c, rf main_arg3) : S8x16x2048x128.Idx → Elt Ideal .f32) x = Scalar.ofBits (F := Ideal) .f32 0x00000000#32) :
    r.2.mem (c, rf main_v3) = kF (F := Ideal) (m (pLoc c)) (m (c, rf main_arg1)) :=
  (h.1 c (rf main_v3) (by decide)).trans ((W5_v3 m c).trans (by
    rw [ops_p, ops_a, ops_z]
    exact first_eq (F := Ideal) (m (pLoc c)) hp (m (c, rf main_arg1)) (m (c, rf main_arg3)) hz _ _ _))

/-- The kernel's second result. -/
theorem kernel_second (m : (ℓ : Loc nD τ sig) → Buf (Elt Ideal) ℓ) {r : PUnit × MemSt nD τ sig (Elt Ideal)} (h : QC m r) (c : Dev nD) :
    r.2.mem (c, rf main_v4) = kF (F := Ideal) (m (pLoc c)) (m (c, rf main_arg2)) :=
  (h.1 c (rf main_v4) (by decide)).trans (W5_v4 m c)

theorem value : Cert.algebraic_KernelIdeal_ReferenceIdeal_pre_caches_zero := by
  intro m ρ m' ρ' hpre hagree
  have hz := fun d : Dev nD => posOK_of_zero _ _ _ _ _ (hpre d)
  refine ⟨fun c => kF (F := Ideal) (m (pLoc c)) (m (c, rf main_arg1)), fun c => kF (F := Ideal) (m (pLoc c)) (m (c, rf main_arg2)), ?_, ?_⟩
  · exact (θ_run (Cert.KernelIdeal.defs (F := Ideal)) _ _).mono
      (fun r h c => ⟨kernel_first m h c (hz c).1 (hz c).2.1, kernel_second m h c, args_kept m h c⟩) (run_main (F := Ideal) m ρ fun d => (hz d).1)
  · refine (θ_run (Cert.ReferenceIdeal.defs (F := Ideal)) _ _).mono (fun r h c => ?_) (Cert.ReferenceIdeal.Value.run (F := Ideal) m' ρ')
    obtain ⟨e1, e2, hargs⟩ := h c
    obtain ⟨a0, a1, a2, a3, a4⟩ := hagree c
    refine ⟨e1.trans ?_, e2.trans ?_, hargs⟩
    · rw [a0, a1, a3]
      exact scatter_eq (F := Ideal) (m (pLoc c)) (hz c).1 _ (col_eq (m (pLoc c)) (hz c).1) (m (c, rf main_arg3)) (hz c).2.1 (m (c, rf main_arg1))
    · rw [a0, a2, a4]
      exact scatter_eq (F := Ideal) (m (pLoc c)) (hz c).1 _ (col_eq (m (pLoc c)) (hz c).1) (m (c, rf main_arg4)) (hz c).2.2 (m (c, rf main_arg2))

end Cert.Proof

end
-- ==== Proof.lean ====
/-
  The proof of `Cert.Claim`: the four frames, the idealization (no operation is rewritten, so there is nothing to
  preserve), and the value claim. What each module holds: `Setup`, `Rows` (names, rows, the indices' conditions),
  `TileVal`, `TileIdx`, `TilePts`, `Tile` (one vector subcore's task), `Handoff`, `Deal` (what the SparseCore call takes and
  returns), `TcVal`, `TcBody`, `TcRegion` (the TensorCore call), `Main`, `Run` (@main and the whole run), `Pre`, `Frames`,
  `Scatter` (the reference), `Flat` (the first result by heads) and `Value`.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_pos_ok
public import proofs.«01_k».proof.Proof.Gen.Pre_caches_zero
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.Pre_pos_ok.Gen.facts, Cert.Pre_caches_zero.Gen.facts,
    frame_kernel, frame_ideal, frame_ideal_zero, frame_ref, frame_ref_zero, trivial, value⟩

end Cert.Proof

end
